-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 2, 64]⟩ ⟨4, ![2, 4096, 2, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 2, 64]⟩ ⟨4, ![2, 4096, 2, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v105) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S2x128x2x64 : Shape := ⟨4, ![2, 128, 2, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x128x2x64 : S_.BroadcastsInDim S2x128x2x64 (![] : Fin 0 → Fin S2x128x2x64.rank)
  reducesTo_S2x128x2x64_S_d0_1_2_3 : S2x128x2x64.ReducesTo [0, 1, 2, 3] S_

variable [Facts]

def fn {F : FTy → Type} [FloatOps F] (main_arg0 : FVec F S2x128x512 .f32) (main_arg1 : FVec F S512x512 .f32) (main_arg2 : FVec F S2x128x2x64 .f32) (main_arg3 : FVec F S2x128x2x64 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x128x2x64 .f32 := Host.absf main_arg2
  let main_cst_2 : FVec F S_ .f32 := constant S_ .f32 0x7F800000#32
  let main_v10 : FVec F S2x128x2x64 .f32 := broadcastInDim S2x128x2x64 ![] bcast_S_S2x128x2x64 main_cst_2
  let main_v11 : IVec S2x128x2x64 1 := cmpf .olt main_v9 main_v10
  let main_c_3 : IVec S_ 1 := constantI S_ 1 1#1
  let main_v12 : IVec S_ 1 := (fun x v => Host.reduce IntOp.andi x v reducesTo_S2x128x2x64_S_d0_1_2_3 h_S_) main_v11 main_c_3
  let main_v13 : IVec S_ 1 := andi main_v8 main_v12
  main_v13
-- ==== Pre_finite_ReferenceIdeal.lean ====
abbrev S2x128x512 : Shape := ⟨3, ![2, 128, 512]⟩
abbrev S512x512 : Shape := ⟨2, ![512, 512]⟩
abbrev S2x4096x2x64 : Shape := ⟨4, ![2, 4096, 2, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x4096x2x64 : S_.BroadcastsInDim S2x4096x2x64 (![] : Fin 0 → Fin S2x4096x2x64.rank)
  reducesTo_S2x4096x2x64_S_d0_1_2_3 : S2x4096x2x64.ReducesTo [0, 1, 2, 3] S_

variable [Facts]

def fn {F : FTy → Type} [FloatOps F] (main_arg0 : FVec F S2x128x512 .f32) (main_arg1 : FVec F S512x512 .f32) (main_arg2 : FVec F S2x4096x2x64 .f32) (main_arg3 : FVec F S2x4096x2x64 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x4096x2x64 .f32 := Host.absf main_arg2
  let main_cst_2 : FVec F S_ .f32 := constant S_ .f32 0x7F800000#32
  let main_v10 : FVec F S2x4096x2x64 .f32 := broadcastInDim S2x4096x2x64 ![] bcast_S_S2x4096x2x64 main_cst_2
  let main_v11 : IVec S2x4096x2x64 1 := cmpf .olt main_v9 main_v10
  let main_c_3 : IVec S_ 1 := constantI S_ 1 1#1
  let main_v12 : IVec S_ 1 := (fun x v => Host.reduce IntOp.andi x v reducesTo_S2x4096x2x64_S_d0_1_2_3 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S2x128x2x64 : Shape := ⟨4, ![2, 128, 2, 64]⟩
abbrev S256x520 : Shape := ⟨2, ![256, 520]⟩
abbrev S8x512 : Shape := ⟨2, ![8, 512]⟩
abbrev S256x512 : Shape := ⟨2, ![256, 512]⟩
abbrev S32 : Shape := ⟨1, ![32]⟩
abbrev S_ : Shape := ⟨0, ![]⟩
abbrev S1x128x512 : Shape := ⟨3, ![1, 128, 512]⟩
abbrev S128x512 : Shape := ⟨2, ![128, 512]⟩
abbrev S1x128x1x64 : Shape := ⟨4, ![1, 128, 1, 64]⟩
abbrev S128x64 : Shape := ⟨2, ![128, 64]⟩
abbrev S512x64 : Shape := ⟨2, ![512, 64]⟩
abbrev S512x128 : Shape := ⟨2, ![512, 128]⟩
abbrev S512 : Shape := ⟨1, ![512]⟩
abbrev S512x1 : Shape := ⟨2, ![512, 1]⟩
abbrev S128x1 : Shape := ⟨2, ![128, 1]⟩
abbrev S1 : Shape := ⟨1, ![1]⟩
abbrev S8x520 : Shape := ⟨2, ![8, 520]⟩
abbrev S8x8 : Shape := ⟨2, ![8, 8]⟩
abbrev S8x1 : Shape := ⟨2, ![8, 1]⟩
abbrev S8x64 : Shape := ⟨2, ![8, 64]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x128x2x64, .f32⟩
  | .hbm, ⟨3, _⟩ => ⟨S2x128x2x64, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S2x128x2x64, .f32⟩
  | .local _ .vmem, ⟨4, _⟩ => ⟨S2x128x2x64, .f32⟩
  | .local _ .vmem, ⟨5, _⟩ => ⟨S2x128x512, .f32⟩
  | .local _ .vmem, ⟨6, _⟩ => ⟨S256x520, .f32⟩
  | .local _ .vmem, ⟨7, _⟩ => ⟨S256x520, .f32⟩
  | .local _ .vmem, ⟨8, _⟩ => ⟨S8x512, .f32⟩
  | .local _ .vmem, ⟨9, _⟩ => ⟨S256x512, .f32⟩
  | _, _ => ⟨S2x128x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_dev17 : Nat :=
  let c0_i32_51 : BitVec 32 := 0#32
  let c16_i32 : BitVec 32 := 16#32
  let c1_i32_50 : BitVec 32 := 1#32
  let v36 : BitVec 32 := Scalar.muli c16_i32 c1_i32_50
  let v37 : BitVec 32 := Scalar.addi c0_i32_51 v36
  v37.toNat
def k0_dev18 : Nat :=
  let c0_i32_54 : BitVec 32 := 0#32
  let c17_i32 : BitVec 32 := 17#32
  let c1_i32_53 : BitVec 32 := 1#32
  let v38 : BitVec 32 := Scalar.muli c17_i32 c1_i32_53
  let v39 : BitVec 32 := Scalar.addi c0_i32_54 v38
  v39.toNat
def k0_dev19 : Nat :=
  let c0_i32_57 : BitVec 32 := 0#32
  let c18_i32 : BitVec 32 := 18#32
  let c1_i32_56 : BitVec 32 := 1#32
  let v40 : BitVec 32 := Scalar.muli c18_i32 c1_i32_56
  let v41 : BitVec 32 := Scalar.addi c0_i32_57 v40
  v41.toNat
def k0_dev20 : Nat :=
  let c0_i32_60 : BitVec 32 := 0#32
  let c19_i32 : BitVec 32 := 19#32
  let c1_i32_59 : BitVec 32 := 1#32
  let v42 : BitVec 32 := Scalar.muli c19_i32 c1_i32_59
  let v43 : BitVec 32 := Scalar.addi c0_i32_60 v42
  v43.toNat
def k0_dev21 : Nat :=
  let c0_i32_63 : BitVec 32 := 0#32
  let c20_i32 : BitVec 32 := 20#32
  let c1_i32_62 : BitVec 32 := 1#32
  let v44 : BitVec 32 := Scalar.muli c20_i32 c1_i32_62
  let v45 : BitVec 32 := Scalar.addi c0_i32_63 v44
  v45.toNat
def k0_dev22 : Nat :=
  let c0_i32_66 : BitVec 32 := 0#32
  let c21_i32 : BitVec 32 := 21#32
  let c1_i32_65 : BitVec 32 := 1#32
  let v46 : BitVec 32 := Scalar.muli c21_i32 c1_i32_65
  let v47 : BitVec 32 := Scalar.addi c0_i32_66 v46
  v47.toNat
def k0_dev23 : Nat :=
  let c0_i32_69 : BitVec 32 := 0#32
  let c22_i32 : BitVec 32 := 22#32
  let c1_i32_68 : BitVec 32 := 1#32
  let v48 : BitVec 32 := Scalar.muli c22_i32 c1_i32_68
  let v49 : BitVec 32 := Scalar.addi c0_i32_69 v48
  v49.toNat
def k0_dev24 : Nat :=
  let c0_i32_72 : BitVec 32 := 0#32
  let c23_i32 : BitVec 32 := 23#32
  let c1_i32_71 : BitVec 32 := 1#32
  let v50 : BitVec 32 := Scalar.muli c23_i32 c1_i32_71
  let v51 : BitVec 32 := Scalar.addi c0_i32_72 v50
  v51.toNat
def k0_dev25 : Nat :=
  let c0_i32_75 : BitVec 32 := 0#32
  let c24_i32 : BitVec 32 := 24#32
  let c1_i32_74 : BitVec 32 := 1#32
  let v52 : BitVec 32 := Scalar.muli c24_i32 c1_i32_74
  let v53 : BitVec 32 := Scalar.addi c0_i32_75 v52
  v53.toNat
def k0_dev26 : Nat :=
  let c0_i32_78 : BitVec 32 := 0#32
  let c25_i32 : BitVec 32 := 25#32
  let c1_i32_77 : BitVec 32 := 1#32
  let v54 : BitVec 32 := Scalar.muli c25_i32 c1_i32_77
  let v55 : BitVec 32 := Scalar.addi c0_i32_78 v54
  v55.toNat
def k0_dev27 : Nat :=
  let c0_i32_81 : BitVec 32 := 0#32
  let c26_i32 : BitVec 32 := 26#32
  let c1_i32_80 : BitVec 32 := 1#32
  let v56 : BitVec 32 := Scalar.muli c26_i32 c1_i32_80
  let v57 : BitVec 32 := Scalar.addi c0_i32_81 v56
  v57.toNat
def k0_dev28 : Nat :=
  let c0_i32_84 : BitVec 32 := 0#32
  let c27_i32 : BitVec 32 := 27#32
  let c1_i32_83 : BitVec 32 := 1#32
  let v58 : BitVec 32 := Scalar.muli c27_i32 c1_i32_83
  let v59 : BitVec 32 := Scalar.addi c0_i32_84 v58
  v59.toNat
def k0_dev29 : Nat :=
  let c0_i32_87 : BitVec 32 := 0#32
  let c28_i32 : BitVec 32 := 28#32
  let c1_i32_86 : BitVec 32 := 1#32
  let v60 : BitVec 32 := Scalar.muli c28_i32 c1_i32_86
  let v61 : BitVec 32 := Scalar.addi c0_i32_87 v60
  v61.toNat
def k0_dev30 : Nat :=
  let c0_i32_90 : BitVec 32 := 0#32
  let c29_i32 : BitVec 32 := 29#32
  let c1_i32_89 : BitVec 32 := 1#32
  let v62 : BitVec 32 := Scalar.muli c29_i32 c1_i32_89
  let v63 : BitVec 32 := Scalar.addi c0_i32_90 v62
  v63.toNat
def k0_dev31 : Nat :=
  let c0_i32_93 : BitVec 32 := 0#32
  let c30_i32 : BitVec 32 := 30#32
  let c1_i32_92 : BitVec 32 := 1#32
  let v64 : BitVec 32 := Scalar.muli c30_i32 c1_i32_92
  let v65 : BitVec 32 := Scalar.addi c0_i32_93 v64
  v65.toNat
def k0_dev32 : Nat :=
  let c0_i32_96 : BitVec 32 := 0#32
  let c31_i32 : BitVec 32 := 31#32
  let c1_i32_95 : BitVec 32 := 1#32
  let v66 : BitVec 32 := Scalar.muli c31_i32 c1_i32_95
  let v67 : BitVec 32 := Scalar.addi c0_i32_96 v66
  v67.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_142 : BitVec 32 := 8#32
  let v169 : BitVec 32 := Scalar.muli v2 c8_i32_142
  let c0_i32_147 : BitVec 32 := 0#32
  ![v169.toNat, 0]
def k0_dev33 : Nat :=
  let c0_i32_146 : BitVec 32 := 0#32
  let c0_i32_144 : BitVec 32 := 0#32
  let c1_i32_145 : BitVec 32 := 1#32
  let v170 : BitVec 32 := Scalar.muli c0_i32_144 c1_i32_145
  let v171 : BitVec 32 := Scalar.addi c0_i32_146 v170
  v171.toNat
def k0_dev34 : Nat :=
  let c0_i32_154 : BitVec 32 := 0#32
  let c1_i32_152 : BitVec 32 := 1#32
  let c1_i32_153 : BitVec 32 := 1#32
  let v179 : BitVec 32 := Scalar.muli c1_i32_152 c1_i32_153
  let v180 : BitVec 32 := Scalar.addi c0_i32_154 v179
  v180.toNat
def k0_dev35 : Nat :=
  let c0_i32_162 : BitVec 32 := 0#32
  let c2_i32_160 : BitVec 32 := 2#32
  let c1_i32_161 : BitVec 32 := 1#32
  let v188 : BitVec 32 := Scalar.muli c2_i32_160 c1_i32_161
  let v189 : BitVec 32 := Scalar.addi c0_i32_162 v188
  v189.toNat
def k0_dev36 : Nat :=
  let c0_i32_170 : BitVec 32 := 0#32
  let c3_i32_168 : BitVec 32 := 3#32
  let c1_i32_169 : BitVec 32 := 1#32
  let v197 : BitVec 32 := Scalar.muli c3_i32_168 c1_i32_169
  let v198 : BitVec 32 := Scalar.addi c0_i32_170 v197
  v198.toNat
def k0_dev37 : Nat :=
  let c0_i32_178 : BitVec 32 := 0#32
  let c4_i32_176 : BitVec 32 := 4#32
  let c1_i32_177 : BitVec 32 := 1#32
  let v206 : BitVec 32 := Scalar.muli c4_i32_176 c1_i32_177
  let v207 : BitVec 32 := Scalar.addi c0_i32_178 v206
  v207.toNat
def k0_dev38 : Nat :=
  let c0_i32_186 : BitVec 32 := 0#32
  let c5_i32_184 : BitVec 32 := 5#32
  let c1_i32_185 : BitVec 32 := 1#32
  let v215 : BitVec 32 := Scalar.muli c5_i32_184 c1_i32_185
  let v216 : BitVec 32 := Scalar.addi c0_i32_186 v215
  v216.toNat
def k0_dev39 : Nat :=
  let c0_i32_193 : BitVec 32 := 0#32
  let c6_i32_191 : BitVec 32 := 6#32
  let c1_i32_192 : BitVec 32 := 1#32
  let v224 : BitVec 32 := Scalar.muli c6_i32_191 c1_i32_192
  let v225 : BitVec 32 := Scalar.addi c0_i32_193 v224
  v225.toNat
def k0_dev40 : Nat :=
  let c0_i32_200 : BitVec 32 := 0#32
  let c7_i32_198 : BitVec 32 := 7#32
  let c1_i32_199 : BitVec 32 := 1#32
  let v233 : BitVec 32 := Scalar.muli c7_i32_198 c1_i32_199
  let v234 : BitVec 32 := Scalar.addi c0_i32_200 v233
  v234.toNat
def k0_dev41 : Nat :=
  let c0_i32_207 : BitVec 32 := 0#32
  let c8_i32_205 : BitVec 32 := 8#32
  let c1_i32_206 : BitVec 32 := 1#32
  let v242 : BitVec 32 := Scalar.muli c8_i32_205 c1_i32_206
  let v243 : BitVec 32 := Scalar.addi c0_i32_207 v242
  v243.toNat
def k0_dev42 : Nat :=
  let c0_i32_214 : BitVec 32 := 0#32
  let c9_i32_212 : BitVec 32 := 9#32
  let c1_i32_213 : BitVec 32 := 1#32
  let v251 : BitVec 32 := Scalar.muli c9_i32_212 c1_i32_213
  let v252 : BitVec 32 := Scalar.addi c0_i32_214 v251
  v252.toNat
def k0_dev43 : Nat :=
  let c0_i32_221 : BitVec 32 := 0#32
  let c10_i32_219 : BitVec 32 := 10#32
  let c1_i32_220 : BitVec 32 := 1#32
  let v260 : BitVec 32 := Scalar.muli c10_i32_219 c1_i32_220
  let v261 : BitVec 32 := Scalar.addi c0_i32_221 v260
  v261.toNat
def k0_dev44 : Nat :=
  let c0_i32_228 : BitVec 32 := 0#32
  let c11_i32_226 : BitVec 32 := 11#32
  let c1_i32_227 : BitVec 32 := 1#32
  let v269 : BitVec 32 := Scalar.muli c11_i32_226 c1_i32_227
  let v270 : BitVec 32 := Scalar.addi c0_i32_228 v269
  v270.toNat
def k0_dev45 : Nat :=
  let c0_i32_235 : BitVec 32 := 0#32
  let c12_i32_233 : BitVec 32 := 12#32
  let c1_i32_234 : BitVec 32 := 1#32
  let v278 : BitVec 32 := Scalar.muli c12_i32_233 c1_i32_234
  let v279 : BitVec 32 := Scalar.addi c0_i32_235 v278
  v279.toNat
def k0_dev46 : Nat :=
  let c0_i32_242 : BitVec 32 := 0#32
  let c13_i32_240 : BitVec 32 := 13#32
  let c1_i32_241 : BitVec 32 := 1#32
  let v287 : BitVec 32 := Scalar.muli c13_i32_240 c1_i32_241
  let v288 : BitVec 32 := Scalar.addi c0_i32_242 v287
  v288.toNat
def k0_dev47 : Nat :=
  let c0_i32_249 : BitVec 32 := 0#32
  let c14_i32_247 : BitVec 32 := 14#32
  let c1_i32_248 : BitVec 32 := 1#32
  let v296 : BitVec 32 := Scalar.muli c14_i32_247 c1_i32_248
  let v297 : BitVec 32 := Scalar.addi c0_i32_249 v296
  v297.toNat
def k0_dev48 : Nat :=
  let c0_i32_256 : BitVec 32 := 0#32
  let c15_i32_254 : BitVec 32 := 15#32
  let c1_i32_255 : BitVec 32 := 1#32
  let v305 : BitVec 32 := Scalar.muli c15_i32_254 c1_i32_255
  let v306 : BitVec 32 := Scalar.addi c0_i32_256 v305
  v306.toNat
def k0_dev49 : Nat :=
  let c0_i32_325 : BitVec 32 := 0#32
  let c16_i32_323 : BitVec 32 := 16#32
  let c1_i32_324 : BitVec 32 := 1#32
  let v415 : BitVec 32 := Scalar.muli c16_i32_323 c1_i32_324
  let v416 : BitVec 32 := Scalar.addi c0_i32_325 v415
  v416.toNat
def k0_dev50 : Nat :=
  let c0_i32_332 : BitVec 32 := 0#32
  let c17_i32_330 : BitVec 32 := 17#32
  let c1_i32_331 : BitVec 32 := 1#32
  let v424 : BitVec 32 := Scalar.muli c17_i32_330 c1_i32_331
  let v425 : BitVec 32 := Scalar.addi c0_i32_332 v424
  v425.toNat
def k0_dev51 : Nat :=
  let c0_i32_339 : BitVec 32 := 0#32
  let c18_i32_337 : BitVec 32 := 18#32
  let c1_i32_338 : BitVec 32 := 1#32
  let v433 : BitVec 32 := Scalar.muli c18_i32_337 c1_i32_338
  let v434 : BitVec 32 := Scalar.addi c0_i32_339 v433
  v434.toNat
def k0_dev52 : Nat :=
  let c0_i32_346 : BitVec 32 := 0#32
  let c19_i32_344 : BitVec 32 := 19#32
  let c1_i32_345 : BitVec 32 := 1#32
  let v442 : BitVec 32 := Scalar.muli c19_i32_344 c1_i32_345
  let v443 : BitVec 32 := Scalar.addi c0_i32_346 v442
  v443.toNat
def k0_dev53 : Nat :=
  let c0_i32_353 : BitVec 32 := 0#32
  let c20_i32_351 : BitVec 32 := 20#32
  let c1_i32_352 : BitVec 32 := 1#32
  let v451 : BitVec 32 := Scalar.muli c20_i32_351 c1_i32_352
  let v452 : BitVec 32 := Scalar.addi c0_i32_353 v451
  v452.toNat
def k0_dev54 : Nat :=
  let c0_i32_360 : BitVec 32 := 0#32
  let c21_i32_358 : BitVec 32 := 21#32
  let c1_i32_359 : BitVec 32 := 1#32
  let v460 : BitVec 32 := Scalar.muli c21_i32_358 c1_i32_359
  let v461 : BitVec 32 := Scalar.addi c0_i32_360 v460
  v461.toNat
def k0_dev55 : Nat :=
  let c0_i32_367 : BitVec 32 := 0#32
  let c22_i32_365 : BitVec 32 := 22#32
  let c1_i32_366 : BitVec 32 := 1#32
  let v469 : BitVec 32 := Scalar.muli c22_i32_365 c1_i32_366
  let v470 : BitVec 32 := Scalar.addi c0_i32_367 v469
  v470.toNat
def k0_dev56 : Nat :=
  let c0_i32_374 : BitVec 32 := 0#32
  let c23_i32_372 : BitVec 32 := 23#32
  let c1_i32_373 : BitVec 32 := 1#32
  let v478 : BitVec 32 := Scalar.muli c23_i32_372 c1_i32_373
  let v479 : BitVec 32 := Scalar.addi c0_i32_374 v478
  v479.toNat
def k0_dev57 : Nat :=
  let c0_i32_381 : BitVec 32 := 0#32
  let c24_i32_379 : BitVec 32 := 24#32
  let c1_i32_380 : BitVec 32 := 1#32
  let v487 : BitVec 32 := Scalar.muli c24_i32_379 c1_i32_380
  let v488 : BitVec 32 := Scalar.addi c0_i32_381 v487
  v488.toNat
def k0_dev58 : Nat :=
  let c0_i32_388 : BitVec 32 := 0#32
  let c25_i32_386 : BitVec 32 := 25#32
  let c1_i32_387 : BitVec 32 := 1#32
  let v496 : BitVec 32 := Scalar.muli c25_i32_386 c1_i32_387
  let v497 : BitVec 32 := Scalar.addi c0_i32_388 v496
  v497.toNat
def k0_dev59 : Nat :=
  let c0_i32_395 : BitVec 32 := 0#32
  let c26_i32_393 : BitVec 32 := 26#32
  let c1_i32_394 : BitVec 32 := 1#32
  let v505 : BitVec 32 := Scalar.muli c26_i32_393 c1_i32_394
  let v506 : BitVec 32 := Scalar.addi c0_i32_395 v505
  v506.toNat
def k0_dev60 : Nat :=
  let c0_i32_402 : BitVec 32 := 0#32
  let c27_i32_400 : BitVec 32 := 27#32
  let c1_i32_401 : BitVec 32 := 1#32
  let v514 : BitVec 32 := Scalar.muli c27_i32_400 c1_i32_401
  let v515 : BitVec 32 := Scalar.addi c0_i32_402 v514
  v515.toNat
def k0_dev61 : Nat :=
  let c0_i32_409 : BitVec 32 := 0#32
  let c28_i32_407 : BitVec 32 := 28#32
  let c1_i32_408 : BitVec 32 := 1#32
  let v523 : BitVec 32 := Scalar.muli c28_i32_407 c1_i32_408
  let v524 : BitVec 32 := Scalar.addi c0_i32_409 v523
  v524.toNat
def k0_dev62 : Nat :=
  let c0_i32_416 : BitVec 32 := 0#32
  let c29_i32_414 : BitVec 32 := 29#32
  let c1_i32_415 : BitVec 32 := 1#32
  let v532 : BitVec 32 := Scalar.muli c29_i32_414 c1_i32_415
  let v533 : BitVec 32 := Scalar.addi c0_i32_416 v532
  v533.toNat
def k0_dev63 : Nat :=
  let c0_i32_423 : BitVec 32 := 0#32
  let c30_i32_421 : BitVec 32 := 30#32
  let c1_i32_422 : BitVec 32 := 1#32
  let v541 : BitVec 32 := Scalar.muli c30_i32_421 c1_i32_422
  let v542 : BitVec 32 := Scalar.addi c0_i32_423 v541
  v542.toNat
def k0_dev64 : Nat :=
  let c0_i32_430 : BitVec 32 := 0#32
  let c31_i32_428 : BitVec 32 := 31#32
  let c1_i32_429 : BitVec 32 := 1#32
  let v550 : BitVec 32 := Scalar.muli c31_i32_428 c1_i32_429
  let v551 : BitVec 32 := Scalar.addi c0_i32_430 v550
  v551.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_762 : BitVec 32 := 8#32
  let v847 : BitVec 32 := Scalar.muli v2 c8_i32_762
  let c0_i32_767 : BitVec 32 := 0#32
  ![v847.toNat, 0]
def k0_dev65 : Nat :=
  let c0_i32_766 : BitVec 32 := 0#32
  let c0_i32_764 : BitVec 32 := 0#32
  let c1_i32_765 : BitVec 32 := 1#32
  let v848 : BitVec 32 := Scalar.muli c0_i32_764 c1_i32_765
  let v849 : BitVec 32 := Scalar.addi c0_i32_766 v848
  v849.toNat
def k0_dev66 : Nat :=
  let c0_i32_772 : BitVec 32 := 0#32
  let c1_i32_770 : BitVec 32 := 1#32
  let c1_i32_771 : BitVec 32 := 1#32
  let v856 : BitVec 32 := Scalar.muli c1_i32_770 c1_i32_771
  let v857 : BitVec 32 := Scalar.addi c0_i32_772 v856
  v857.toNat
def k0_dev67 : Nat :=
  let c0_i32_778 : BitVec 32 := 0#32
  let c2_i32_776 : BitVec 32 := 2#32
  let c1_i32_777 : BitVec 32 := 1#32
  let v864 : BitVec 32 := Scalar.muli c2_i32_776 c1_i32_777
  let v865 : BitVec 32 := Scalar.addi c0_i32_778 v864
  v865.toNat
def k0_dev68 : Nat :=
  let c0_i32_784 : BitVec 32 := 0#32
  let c3_i32_782 : BitVec 32 := 3#32
  let c1_i32_783 : BitVec 32 := 1#32
  let v872 : BitVec 32 := Scalar.muli c3_i32_782 c1_i32_783
  let v873 : BitVec 32 := Scalar.addi c0_i32_784 v872
  v873.toNat
def k0_dev69 : Nat :=
  let c0_i32_790 : BitVec 32 := 0#32
  let c4_i32_788 : BitVec 32 := 4#32
  let c1_i32_789 : BitVec 32 := 1#32
  let v880 : BitVec 32 := Scalar.muli c4_i32_788 c1_i32_789
  let v881 : BitVec 32 := Scalar.addi c0_i32_790 v880
  v881.toNat
def k0_dev70 : Nat :=
  let c0_i32_796 : BitVec 32 := 0#32
  let c5_i32_794 : BitVec 32 := 5#32
  let c1_i32_795 : BitVec 32 := 1#32
  let v888 : BitVec 32 := Scalar.muli c5_i32_794 c1_i32_795
  let v889 : BitVec 32 := Scalar.addi c0_i32_796 v888
  v889.toNat
def k0_dev71 : Nat :=
  let c0_i32_802 : BitVec 32 := 0#32
  let c6_i32_800 : BitVec 32 := 6#32
  let c1_i32_801 : BitVec 32 := 1#32
  let v896 : BitVec 32 := Scalar.muli c6_i32_800 c1_i32_801
  let v897 : BitVec 32 := Scalar.addi c0_i32_802 v896
  v897.toNat
def k0_dev72 : Nat :=
  let c0_i32_808 : BitVec 32 := 0#32
  let c7_i32_806 : BitVec 32 := 7#32
  let c1_i32_807 : BitVec 32 := 1#32
  let v904 : BitVec 32 := Scalar.muli c7_i32_806 c1_i32_807
  let v905 : BitVec 32 := Scalar.addi c0_i32_808 v904
  v905.toNat
def k0_dev73 : Nat :=
  let c0_i32_814 : BitVec 32 := 0#32
  let c8_i32_812 : BitVec 32 := 8#32
  let c1_i32_813 : BitVec 32 := 1#32
  let v912 : BitVec 32 := Scalar.muli c8_i32_812 c1_i32_813
  let v913 : BitVec 32 := Scalar.addi c0_i32_814 v912
  v913.toNat
def k0_dev74 : Nat :=
  let c0_i32_820 : BitVec 32 := 0#32
  let c9_i32_818 : BitVec 32 := 9#32
  let c1_i32_819 : BitVec 32 := 1#32
  let v920 : BitVec 32 := Scalar.muli c9_i32_818 c1_i32_819
  let v921 : BitVec 32 := Scalar.addi c0_i32_820 v920
  v921.toNat
def k0_dev75 : Nat :=
  let c0_i32_826 : BitVec 32 := 0#32
  let c10_i32_824 : BitVec 32 := 10#32
  let c1_i32_825 : BitVec 32 := 1#32
  let v928 : BitVec 32 := Scalar.muli c10_i32_824 c1_i32_825
  let v929 : BitVec 32 := Scalar.addi c0_i32_826 v928
  v929.toNat
def k0_dev76 : Nat :=
  let c0_i32_832 : BitVec 32 := 0#32
  let c11_i32_830 : BitVec 32 := 11#32
  let c1_i32_831 : BitVec 32 := 1#32
  let v936 : BitVec 32 := Scalar.muli c11_i32_830 c1_i32_831
  let v937 : BitVec 32 := Scalar.addi c0_i32_832 v936
  v937.toNat
def k0_dev77 : Nat :=
  let c0_i32_838 : BitVec 32 := 0#32
  let c12_i32_836 : BitVec 32 := 12#32
  let c1_i32_837 : BitVec 32 := 1#32
  let v944 : BitVec 32 := Scalar.muli c12_i32_836 c1_i32_837
  let v945 : BitVec 32 := Scalar.addi c0_i32_838 v944
  v945.toNat
def k0_dev78 : Nat :=
  let c0_i32_844 : BitVec 32 := 0#32
  let c13_i32_842 : BitVec 32 := 13#32
  let c1_i32_843 : BitVec 32 := 1#32
  let v952 : BitVec 32 := Scalar.muli c13_i32_842 c1_i32_843
  let v953 : BitVec 32 := Scalar.addi c0_i32_844 v952
  v953.toNat
def k0_dev79 : Nat :=
  let c0_i32_850 : BitVec 32 := 0#32
  let c14_i32_848 : BitVec 32 := 14#32
  let c1_i32_849 : BitVec 32 := 1#32
  let v960 : BitVec 32 := Scalar.muli c14_i32_848 c1_i32_849
  let v961 : BitVec 32 := Scalar.addi c0_i32_850 v960
  v961.toNat
def k0_dev80 : Nat :=
  let c0_i32_856 : BitVec 32 := 0#32
  let c15_i32_854 : BitVec 32 := 15#32
  let c1_i32_855 : BitVec 32 := 1#32
  let v968 : BitVec 32 := Scalar.muli c15_i32_854 c1_i32_855
  let v969 : BitVec 32 := Scalar.addi c0_i32_856 v968
  v969.toNat
def k0_dev81 : Nat :=
  let c0_i32_862 : BitVec 32 := 0#32
  let c16_i32_860 : BitVec 32 := 16#32
  let c1_i32_861 : BitVec 32 := 1#32
  let v976 : BitVec 32 := Scalar.muli c16_i32_860 c1_i32_861
  let v977 : BitVec 32 := Scalar.addi c0_i32_862 v976
  v977.toNat
def k0_dev82 : Nat :=
  let c0_i32_868 : BitVec 32 := 0#32
  let c17_i32_866 : BitVec 32 := 17#32
  let c1_i32_867 : BitVec 32 := 1#32
  let v984 : BitVec 32 := Scalar.muli c17_i32_866 c1_i32_867
  let v985 : BitVec 32 := Scalar.addi c0_i32_868 v984
  v985.toNat
def k0_dev83 : Nat :=
  let c0_i32_874 : BitVec 32 := 0#32
  let c18_i32_872 : BitVec 32 := 18#32
  let c1_i32_873 : BitVec 32 := 1#32
  let v992 : BitVec 32 := Scalar.muli c18_i32_872 c1_i32_873
  let v993 : BitVec 32 := Scalar.addi c0_i32_874 v992
  v993.toNat
def k0_dev84 : Nat :=
  let c0_i32_880 : BitVec 32 := 0#32
  let c19_i32_878 : BitVec 32 := 19#32
  let c1_i32_879 : BitVec 32 := 1#32
  let v1000 : BitVec 32 := Scalar.muli c19_i32_878 c1_i32_879
  let v1001 : BitVec 32 := Scalar.addi c0_i32_880 v1000
  v1001.toNat
def k0_dev85 : Nat :=
  let c0_i32_886 : BitVec 32 := 0#32
  let c20_i32_884 : BitVec 32 := 20#32
  let c1_i32_885 : BitVec 32 := 1#32
  let v1008 : BitVec 32 := Scalar.muli c20_i32_884 c1_i32_885
  let v1009 : BitVec 32 := Scalar.addi c0_i32_886 v1008
  v1009.toNat
def k0_dev86 : Nat :=
  let c0_i32_892 : BitVec 32 := 0#32
  let c21_i32_890 : BitVec 32 := 21#32
  let c1_i32_891 : BitVec 32 := 1#32
  let v1016 : BitVec 32 := Scalar.muli c21_i32_890 c1_i32_891
  let v1017 : BitVec 32 := Scalar.addi c0_i32_892 v1016
  v1017.toNat
def k0_dev87 : Nat :=
  let c0_i32_898 : BitVec 32 := 0#32
  let c22_i32_896 : BitVec 32 := 22#32
  let c1_i32_897 : BitVec 32 := 1#32
  let v1024 : BitVec 32 := Scalar.muli c22_i32_896 c1_i32_897
  let v1025 : BitVec 32 := Scalar.addi c0_i32_898 v1024
  v1025.toNat
def k0_dev88 : Nat :=
  let c0_i32_904 : BitVec 32 := 0#32
  let c23_i32_902 : BitVec 32 := 23#32
  let c1_i32_903 : BitVec 32 := 1#32
  let v1032 : BitVec 32 := Scalar.muli c23_i32_902 c1_i32_903
  let v1033 : BitVec 32 := Scalar.addi c0_i32_904 v1032
  v1033.toNat
def k0_dev89 : Nat :=
  let c0_i32_910 : BitVec 32 := 0#32
  let c24_i32_908 : BitVec 32 := 24#32
  let c1_i32_909 : BitVec 32 := 1#32
  let v1040 : BitVec 32 := Scalar.muli c24_i32_908 c1_i32_909
  let v1041 : BitVec 32 := Scalar.addi c0_i32_910 v1040
  v1041.toNat
def k0_dev90 : Nat :=
  let c0_i32_916 : BitVec 32 := 0#32
  let c25_i32_914 : BitVec 32 := 25#32
  let c1_i32_915 : BitVec 32 := 1#32
  let v1048 : BitVec 32 := Scalar.muli c25_i32_914 c1_i32_915
  let v1049 : BitVec 32 := Scalar.addi c0_i32_916 v1048
  v1049.toNat
def k0_dev91 : Nat :=
  let c0_i32_922 : BitVec 32 := 0#32
  let c26_i32_920 : BitVec 32 := 26#32
  let c1_i32_921 : BitVec 32 := 1#32
  let v1056 : BitVec 32 := Scalar.muli c26_i32_920 c1_i32_921
  let v1057 : BitVec 32 := Scalar.addi c0_i32_922 v1056
  v1057.toNat
def k0_dev92 : Nat :=
  let c0_i32_928 : BitVec 32 := 0#32
  let c27_i32_926 : BitVec 32 := 27#32
  let c1_i32_927 : BitVec 32 := 1#32
  let v1064 : BitVec 32 := Scalar.muli c27_i32_926 c1_i32_927
  let v1065 : BitVec 32 := Scalar.addi c0_i32_928 v1064
  v1065.toNat
def k0_dev93 : Nat :=
  let c0_i32_934 : BitVec 32 := 0#32
  let c28_i32_932 : BitVec 32 := 28#32
  let c1_i32_933 : BitVec 32 := 1#32
  let v1072 : BitVec 32 := Scalar.muli c28_i32_932 c1_i32_933
  let v1073 : BitVec 32 := Scalar.addi c0_i32_934 v1072
  v1073.toNat
def k0_dev94 : Nat :=
  let c0_i32_940 : BitVec 32 := 0#32
  let c29_i32_938 : BitVec 32 := 29#32
  let c1_i32_939 : BitVec 32 := 1#32
  let v1080 : BitVec 32 := Scalar.muli c29_i32_938 c1_i32_939
  let v1081 : BitVec 32 := Scalar.addi c0_i32_940 v1080
  v1081.toNat
def k0_dev95 : Nat :=
  let c0_i32_946 : BitVec 32 := 0#32
  let c30_i32_944 : BitVec 32 := 30#32
  let c1_i32_945 : BitVec 32 := 1#32
  let v1088 : BitVec 32 := Scalar.muli c30_i32_944 c1_i32_945
  let v1089 : BitVec 32 := Scalar.addi c0_i32_946 v1088
  v1089.toNat
def k0_dev96 : Nat :=
  let c0_i32_952 : BitVec 32 := 0#32
  let c31_i32_950 : BitVec 32 := 31#32
  let c1_i32_951 : BitVec 32 := 1#32
  let v1096 : BitVec 32 := Scalar.muli c31_i32_950 c1_i32_951
  let v1097 : BitVec 32 := Scalar.addi c0_i32_952 v1096
  v1097.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x512 : Shape := ⟨2, ![512, 512]⟩
abbrev S2x4096x2x64 : Shape := ⟨4, ![2, 4096, 2, 64]⟩
abbrev S2x128x8x64 : Shape := ⟨4, ![2, 128, 8, 64]⟩
abbrev S2x4096x2x4x64 : Shape := ⟨5, ![2, 4096, 2, 4, 64]⟩
abbrev S2x4096x8x64 : Shape := ⟨4, ![2, 4096, 8, 64]⟩
abbrev S_ : Shape := ⟨0, ![]⟩
abbrev S2x8x128x1 : Shape := ⟨4, ![2, 8, 128, 1]⟩
abbrev S2x1024x8x64 : Shape := ⟨4, ![2, 1024, 8, 64]⟩
abbrev S2x8x128x1024 : Shape := ⟨4, ![2, 8, 128, 1024]⟩
abbrev S2x8x128 : Shape := ⟨3, ![2, 8, 128]⟩
abbrev S2x128x8x1 : Shape := ⟨4, ![2, 128, 8, 1]⟩
abbrev S2x8x64x128 : Shape := ⟨4, ![2, 8, 64, 128]⟩

abbrev nBuf : Space → Nat
  | .hbm => 126
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x4096x2x64, .f32⟩
  | .hbm, ⟨3, _⟩ => ⟨S2x4096x2x64, .f32⟩
  | .hbm, ⟨4, _⟩ => ⟨S512x512, .f32⟩
  | .hbm, ⟨5, _⟩ => ⟨S2x128x512, .f32⟩
  | .hbm, ⟨6, _⟩ => ⟨S2x128x8x64, .f32⟩
  | .hbm, ⟨7, _⟩ => ⟨S2x4096x2x4x64, .f32⟩
  | .hbm, ⟨8, _⟩ => ⟨S2x4096x8x64, .f32⟩
  | .hbm, ⟨9, _⟩ => ⟨S2x4096x2x4x64, .f32⟩
  | .hbm, ⟨10, _⟩ => ⟨S2x4096x8x64, .f32⟩
  | .hbm, ⟨11, _⟩ => ⟨S_, .f32⟩
  | .hbm, ⟨12, _⟩ => ⟨S2x128x8x64, .f32⟩
  | .hbm, ⟨13, _⟩ => ⟨S_, .f32⟩
  | .hbm, ⟨14, _⟩ => ⟨S2x8x128x1, .f32⟩
  | .hbm, ⟨15, _⟩ => ⟨S_, .f32⟩
  | .hbm, ⟨16, _⟩ => ⟨S2x8x128x1, .f32⟩
  | .hbm, ⟨17, _⟩ => ⟨S2x1024x8x64, .f32⟩
  | .hbm, ⟨18, _⟩ => ⟨S2x1024x8x64, .f32⟩
  | .hbm, ⟨19, _⟩ => ⟨S2x8x128x1024, .f32⟩
  | .hbm, ⟨20, _⟩ => ⟨S_, .f32⟩
  | .hbm, ⟨21, _⟩ => ⟨S2x8x128x1024, .f32⟩
  | .hbm, ⟨22, _⟩ => ⟨S2x8x128x1024, .f32⟩
  | .hbm, ⟨23, _⟩ => ⟨S_, .f32⟩
  | .hbm, ⟨24, _⟩ => ⟨S2x8x128, .f32⟩
  | .hbm, ⟨25, _⟩ => ⟨S2x8x128x1, .f32⟩
  | .hbm, ⟨26, _⟩ => ⟨S2x8x128x1, .f32⟩
  | .hbm, ⟨27, _⟩ => ⟨S2x8x128x1, .f32⟩
  | .hbm, ⟨28, _⟩ => ⟨S2x8x128x1, .f32⟩
  | .hbm, ⟨29, _⟩ => ⟨S2x8x128x1024, .f32⟩
  | .hbm, ⟨30, _⟩ => ⟨S2x8x128x1024, .f32⟩
  | .hbm, ⟨31, _⟩ => ⟨S2x8x128x1024, .f32⟩
  | .hbm, ⟨32, _⟩ => ⟨S2x8x128x1, .f32⟩
  | .hbm, ⟨33, _⟩ => ⟨S_, .f32⟩
  | .hbm, ⟨34, _⟩ => ⟨S2x8x128, .f32⟩
  | .hbm, ⟨35, _⟩ => ⟨S2x8x128x1, .f32⟩
  | .hbm, ⟨36, _⟩ => ⟨S2x8x128x1, .f32⟩
  | .hbm, ⟨37, _⟩ => ⟨S2x128x8x1, .f32⟩
  | .hbm, ⟨38, _⟩ => ⟨S2x128x8x64, .f32⟩
  | .hbm, ⟨39, _⟩ => ⟨S2x128x8x64, .f32⟩
  | .hbm, ⟨40, _⟩ => ⟨S2x8x64x128, .f32⟩
  | .hbm, ⟨41, _⟩ => ⟨S2x128x8x64, .f32⟩
  | .hbm, ⟨42, _⟩ => ⟨S2x128x8x64, .f32⟩
  | .hbm, ⟨43, _⟩ => ⟨S2x1024x8x64, .f32⟩
  | .hbm, ⟨44, _⟩ => ⟨S2x1024x8x64, .f32⟩
  | .hbm, ⟨45, _⟩ => ⟨S2x8x128x1024, .f32⟩
  | .hbm, ⟨46, _⟩ => ⟨S_, .f32⟩
  | .hbm, ⟨47, _⟩ => ⟨S2x8x128x1024, .f32⟩
  | .hbm, ⟨48, _⟩ => ⟨S2x8x128x1024, .f32⟩
  | .hbm, ⟨49, _⟩ => ⟨S_, .f32⟩
  | .hbm, ⟨50, _⟩ => ⟨S2x8x128, .f32⟩
  | .hbm, ⟨51, _⟩ => ⟨S2x8x128x1, .f32⟩
  | .hbm, ⟨52, _⟩ => ⟨S2x8x128x1, .f32⟩
  | .hbm, ⟨53, _⟩ => ⟨S2x8x128x1, .f32⟩
  | .hbm, ⟨54, _⟩ => ⟨S2x8x128x1, .f32⟩
  | .hbm, ⟨55, _⟩ => ⟨S2x8x128x1024, .f32⟩
  | .hbm, ⟨56, _⟩ => ⟨S2x8x128x1024, .f32⟩
  | .hbm, ⟨57, _⟩ => ⟨S2x8x128x1024, .f32⟩
  | .hbm, ⟨58, _⟩ => ⟨S2x8x128x1, .f32⟩
  | .hbm, ⟨59, _⟩ => ⟨S_, .f32⟩
  | .hbm, ⟨60, _⟩ => ⟨S2x8x128, .f32⟩
  | .hbm, ⟨61, _⟩ => ⟨S2x8x128x1, .f32⟩
  | .hbm, ⟨62, _⟩ => ⟨S2x8x128x1, .f32⟩
  | .hbm, ⟨63, _⟩ => ⟨S2x128x8x1, .f32⟩
  | .hbm, ⟨64, _⟩ => ⟨S2x128x8x64, .f32⟩
  | .hbm, ⟨65, _⟩ => ⟨S2x128x8x64, .f32⟩
  | .hbm, ⟨66, _⟩ => ⟨S2x8x64x128, .f32⟩
  | .hbm, ⟨67, _⟩ => ⟨S2x128x8x64, .f32⟩
  | .hbm, ⟨68, _⟩ => ⟨S2x128x8x64, .f32⟩
  | .hbm, ⟨69, _⟩ => ⟨S2x1024x8x64, .f32⟩
  | .hbm, ⟨70, _⟩ => ⟨S2x1024x8x64, .f32⟩
  | .hbm, ⟨71, _⟩ => ⟨S2x8x128x1024, .f32⟩
  | .hbm, ⟨72, _⟩ => ⟨S_, .f32⟩
  | .hbm, ⟨73, _⟩ => ⟨S2x8x128x1024, .f32⟩
  | .hbm, ⟨74, _⟩ => ⟨S2x8x128x1024, .f32⟩
  | .hbm, ⟨75, _⟩ => ⟨S_, .f32⟩
  | .hbm, ⟨76, _⟩ => ⟨S2x8x128, .f32⟩
  | .hbm, ⟨77, _⟩ => ⟨S2x8x128x1, .f32⟩
  | .hbm, ⟨78, _⟩ => ⟨S2x8x128x1, .f32⟩
  | .hbm, ⟨79, _⟩ => ⟨S2x8x128x1, .f32⟩
  | .hbm, ⟨80, _⟩ => ⟨S2x8x128x1, .f32⟩
  | .hbm, ⟨81, _⟩ => ⟨S2x8x128x1024, .f32⟩
  | .hbm, ⟨82, _⟩ => ⟨S2x8x128x1024, .f32⟩
  | .hbm, ⟨83, _⟩ => ⟨S2x8x128x1024, .f32⟩
  | .hbm, ⟨84, _⟩ => ⟨S2x8x128x1, .f32⟩
  | .hbm, ⟨85, _⟩ => ⟨S_, .f32⟩
  | .hbm, ⟨86, _⟩ => ⟨S2x8x128, .f32⟩
  | .hbm, ⟨87, _⟩ => ⟨S2x8x128x1, .f32⟩
  | .hbm, ⟨88, _⟩ => ⟨S2x8x128x1, .f32⟩
  | .hbm, ⟨89, _⟩ => ⟨S2x128x8x1, .f32⟩
  | .hbm, ⟨90, _⟩ => ⟨S2x128x8x64, .f32⟩
  | .hbm, ⟨91, _⟩ => ⟨S2x128x8x64, .f32⟩
  | .hbm, ⟨92, _⟩ => ⟨S2x8x64x128, .f32⟩
  | .hbm, ⟨93, _⟩ => ⟨S2x128x8x64, .f32⟩
  | .hbm, ⟨94, _⟩ => ⟨S2x128x8x64, .f32⟩
  | .hbm, ⟨95, _⟩ => ⟨S2x1024x8x64, .f32⟩
  | .hbm, ⟨96, _⟩ => ⟨S2x1024x8x64, .f32⟩
  | .hbm, ⟨97, _⟩ => ⟨S2x8x128x1024, .f32⟩
  | .hbm, ⟨98, _⟩ => ⟨S_, .f32⟩
  | .hbm, ⟨99, _⟩ => ⟨S2x8x128x1024, .f32⟩
  | .hbm, ⟨100, _⟩ => ⟨S2x8x128x1024, .f32⟩
  | .hbm, ⟨101, _⟩ => ⟨S_, .f32⟩
  | .hbm, ⟨102, _⟩ => ⟨S2x8x128, .f32⟩
  | .hbm, ⟨103, _⟩ => ⟨S2x8x128x1, .f32⟩
  | .hbm, ⟨104, _⟩ => ⟨S2x8x128x1, .f32⟩
  | .hbm, ⟨105, _⟩ => ⟨S2x8x128x1, .f32⟩
  | .hbm, ⟨106, _⟩ => ⟨S2x8x128x1, .f32⟩
  | .hbm, ⟨107, _⟩ => ⟨S2x8x128x1024, .f32⟩
  | .hbm, ⟨108, _⟩ => ⟨S2x8x128x1024, .f32⟩
  | .hbm, ⟨109, _⟩ => ⟨S2x8x128x1024, .f32⟩
  | .hbm, ⟨110, _⟩ => ⟨S2x8x128x1, .f32⟩
  | .hbm, ⟨111, _⟩ => ⟨S_, .f32⟩
  | .hbm, ⟨112, _⟩ => ⟨S2x8x128, .f32⟩
  | .hbm, ⟨113, _⟩ => ⟨S2x8x128x1, .f32⟩
  | .hbm, ⟨114, _⟩ => ⟨S2x8x128x1, .f32⟩
  | .hbm, ⟨115, _⟩ => ⟨S2x128x8x1, .f32⟩
  | .hbm, ⟨116, _⟩ => ⟨S2x128x8x64, .f32⟩
  | .hbm, ⟨117, _⟩ => ⟨S2x128x8x64, .f32⟩
  | .hbm, ⟨118, _⟩ => ⟨S2x8x64x128, .f32⟩
  | .hbm, ⟨119, _⟩ => ⟨S2x128x8x64, .f32⟩
  | .hbm, ⟨120, _⟩ => ⟨S2x128x8x64, .f32⟩
  | .hbm, ⟨121, _⟩ => ⟨S2x128x8x1, .f32⟩
  | .hbm, ⟨122, _⟩ => ⟨S2x128x8x64, .f32⟩
  | .hbm, ⟨123, _⟩ => ⟨S2x128x8x64, .f32⟩
  | .hbm, ⟨124, _⟩ => ⟨S2x128x512, .f32⟩
  | .hbm, ⟨125, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩

abbrev nD : Nat := 1
abbrev τ : Topo := Topo.v7x

variable {F : FTy → Type} [FloatOps F]
-- ==== Proof.LoopBodyIdeal.lean ====
/- The kernel's body written with loops. The printed body is unrolled; this file writes the same
   program as a few loops over the 32 devices, the 2 batches, the 2 key/value heads and the 4 query
   heads of each, and proves that the printed body is that program. Every later file reasons about
   the loops. -/
module

public import proofs.«01_k».proof.Proof.Gen.KernelIdeal.Skeleton

@[expose] public section

set_option synthInstance.maxSize 4096

noncomputable section

namespace Cert.KernelIdeal.Loop

open Idealize.ShloMosaic Idealize.SL.Sem Cert.KernelIdeal Cert.KernelIdeal.Gen

variable {F : FTy → Type} [FloatOps F]

/-- The programs of one core of this kernel. -/
abbrev Core (F : FTy → Type) [FloatOps F] (α : Type) := Prog (TpuEff nD τ sig (Elt F) Λ₀ .tc) α

/-! ## Loops -/

/-- Run `f` at each member of a list, in order. -/
def forEach {ι : Type} : List ι → (ι → Core F PUnit) → Core F PUnit
  | [], _ => Prog.ret ⟨⟩
  | i :: l, f => Prog.bind (f i) fun _ => forEach l f

/-- The 32 devices, in order. -/
def devs : List (Fin 32) :=
  [0, 1, 2, 3, 4, 5, 6, 7, 8, 9, 10, 11, 12, 13, 14, 15, 16, 17, 18, 19, 20, 21, 22, 23, 24, 25, 26, 27, 28, 29, 30, 31]

/-- The 16 devices that batch `b`'s row blocks go to, in order. -/
def devsOf : Fin 2 → List (Fin 32)
  | 0 => [0, 1, 2, 3, 4, 5, 6, 7, 8, 9, 10, 11, 12, 13, 14, 15]
  | 1 => [16, 17, 18, 19, 20, 21, 22, 23, 24, 25, 26, 27, 28, 29, 30, 31]

/-- Device `d` as the program names it. -/
abbrev dev (d : Fin 32) : Dev nD := d

/-! ## Rectangles -/

/-- Row block `d` (8 rows, all 520 columns) of a 256 × 520 buffer is inside it. -/
theorem row520_inb (d : Fin 32) : ∀ a, (![8 * d.val, 0] : Fin 2 → Nat) a + S8x520.size a ≤ S256x520.size a := by
  revert d; decide

/-- Row block `d` (8 rows, all 512 columns) of a 256 × 512 buffer is inside it. -/
theorem row512_inb (d : Fin 32) : ∀ a, (![8 * d.val, 0] : Fin 2 → Nat) a + S8x512.size a ≤ S256x512.size a := by
  revert d; decide

/-- Row block `d` of a 256 × 520 buffer. -/
@[reducible] def row520 (d : Fin 32) : Rect S256x520 := Rect.unit (s := S256x520) ![8 * d.val, 0] S8x520.size (row520_inb d)

/-- Row block `d` of a 256 × 512 buffer. -/
@[reducible] def row512 (d : Fin 32) : Rect S256x512 := Rect.unit (s := S256x512) ![8 * d.val, 0] S8x512.size (row512_inb d)

theorem oRect_inb : ∀ (b : Fin 2) (h : Fin 8) (a : Fin 2), (![128 * b.val, 64 * h.val] : Fin 2 → Nat) a + S128x64.size a ≤ S256x520.size a := by
  decide

theorem lRect_inb : ∀ (b : Fin 2) (h : Fin 8) (a : Fin 2), (![128 * b.val, 512 + h.val] : Fin 2 → Nat) a + S128x1.size a ≤ S256x520.size a := by
  decide

/-- Where head `h` of batch `b` keeps its numerators: 128 rows, 64 columns. -/
@[reducible] def oRect (b : Fin 2) (h : Fin 8) : Rect S256x520 :=
  Rect.unit (s := S256x520) ![128 * b.val, 64 * h.val] S128x64.size (oRect_inb b h)

/-- Where head `h` of batch `b` keeps its denominators: 128 rows, one column. -/
@[reducible] def lRect (b : Fin 2) (h : Fin 8) : Rect S256x520 :=
  Rect.unit (s := S256x520) ![128 * b.val, 512 + h.val] S128x1.size (lRect_inb b h)

theorem xRect_inb : ∀ (b : Fin 2) (a : Fin 3), (![b.val, 0, 0] : Fin 3 → Nat) a + S1x128x512.size a ≤ S2x128x512.size a := by
  decide

/-- Batch `b` of a 2 × 128 × 512 buffer. -/
@[reducible] def xRect (b : Fin 2) : Rect S2x128x512 :=
  Rect.unit (s := S2x128x512) ![b.val, 0, 0] S1x128x512.size (xRect_inb b)

theorem kvRect_inb : ∀ (b g : Fin 2) (a : Fin 4), (![b.val, 0, g.val, 0] : Fin 4 → Nat) a + S1x128x1x64.size a ≤ S2x128x2x64.size a := by
  decide

/-- Batch `b`, key/value head `g` of a 2 × 128 × 2 × 64 buffer. -/
@[reducible] def kvRect (b g : Fin 2) : Rect S2x128x2x64 :=
  Rect.unit (s := S2x128x2x64) ![b.val, 0, g.val, 0] S1x128x1x64.size (kvRect_inb b g)

theorem wRect_inb : ∀ (a : Fin 2), (![0, 0] : Fin 2 → Nat) a + S512x512.size a ≤ S512x512.size a := by decide

/-- All of a 512 × 512 buffer. -/
@[reducible] def wRect : Rect S512x512 := Rect.unit (s := S512x512) ![0, 0] S512x512.size wRect_inb

theorem slabRect_inb : ∀ (a : Fin 2), (![0, 0] : Fin 2 → Nat) a + S8x512.size a ≤ S8x512.size a := by decide

/-- All of an 8 × 512 buffer. -/
@[reducible] def slabRect : Rect S8x512 := Rect.unit (s := S8x512) ![0, 0] S8x512.size slabRect_inb

theorem halfRect_inb : ∀ (b : Fin 2) (a : Fin 2), (![128 * b.val, 0] : Fin 2 → Nat) a + S128x512.size a ≤ S256x512.size a := by
  decide

/-- The 128 rows of batch `b` of a 256 × 512 buffer. -/
@[reducible] def halfRect (b : Fin 2) : Rect S256x512 :=
  Rect.unit (s := S256x512) ![128 * b.val, 0] S128x512.size (halfRect_inb b)

theorem sem_inb : ∀ (d : Fin 32) (a : Fin 1), (![d.val] : Fin 1 → Nat) a + S1.size a ≤ S32.size a := by decide

/-- Semaphore `d` of an array of 32. -/
@[reducible] def semAt (a : DmaSems sig S32) (d : Fin 32) : DmaSems sig S_ :=
  (a.slice (Rect.unit (s := S32) ![d.val] S1.size (sem_inb d))).squeeze S_ squeezes_S1_S_

/-- The semaphore of an array of 32 that belongs to the running device. -/
@[reducible] def semMine (a : DmaSems sig S32) (me : Dev nD) : DmaSems sig S_ :=
  (a.slice (Rect.unit (s := S32) (k0_off1 me) S1.size (k0_off1_inb me))).squeeze S_ squeezes_S1_S_

/-- Row block `d` of a 256 × 520 buffer, as a buffer of its own. -/
@[reducible] def block520 (m : Memref sig .tc .vmem S256x520 .f32) (d : Fin 32) : Memref sig .tc .vmem S8x520 .f32 :=
  m.slice (row520 d) (fun _ => rfl)

/-- The running device's row block of a 256 × 520 buffer. -/
@[reducible] def mine520 (m : Memref sig .tc .vmem S256x520 .f32) (me : Dev nD) : Memref sig .tc .vmem S8x520 .f32 :=
  m.slice (Rect.unit (s := S256x520) (k0_off2 me) S8x520.size (k0_off2_inb me)) (fun _ => rfl)

/-- Row block `d` of a 256 × 512 buffer, as a buffer of its own. -/
@[reducible] def block512 (m : Memref sig .tc .vmem S256x512 .f32) (d : Fin 32) : Memref sig .tc .vmem S8x512 .f32 :=
  m.slice (row512 d) (fun _ => rfl)

/-- The running device's row block of a 256 × 512 buffer. -/
@[reducible] def mine512 (m : Memref sig .tc .vmem S256x512 .f32) (me : Dev nD) : Memref sig .tc .vmem S8x512 .f32 :=
  m.slice (Rect.unit (s := S256x512) (k0_off3 me) S8x512.size (k0_off3_inb me)) (fun _ => rfl)

/-! ## Values -/

/-- One batch of queries: the batch's rows times the query weights. -/
def queries (x : Vec F S1x128x512 .f32) (w : Vec F S512x512 .f32) : FVec F S128x512 .f32 :=
  matmul dot_S128x512_S512x512_S128x512_1_0_0_1_n_n none (shapeCast S128x512 x shapeCasts_S1x128x512_S128x512)
    (shapeCast S512x512 w shapeCasts_S512x512_S512x512) (constant S128x512 .f32 0x00000000#32)

theorem qSlice_inb : ∀ (g : Fin 2) (j : Fin 4), S128x512.Slices ![0, 256 * g.val + 64 * j.val] S128x64 := by decide

/-- Query head `4 g + j`. -/
def qHead (q : FVec F S128x512 .f32) (g : Fin 2) (j : Fin 4) : FVec F S128x64 .f32 :=
  extractStridedSlice S128x64 ![0, 256 * g.val + 64 * j.val] q (qSlice_inb g j)

/-- The four query heads of key/value head `g`, stacked. -/
def qGroup (q : FVec F S128x512 .f32) (g : Fin 2) : FVec F S512x64 .f32 :=
  concatenate S512x64 0 [⟨S128x64, qHead q g 0⟩, ⟨S128x64, qHead q g 1⟩, ⟨S128x64, qHead q g 2⟩, ⟨S128x64, qHead q g 3⟩]
    concatenates_S128x64_S128x64_S128x64_S128x64_S512x64_d0

/-- The exponentials of the scaled scores of the stacked heads against one block of keys. -/
def weights (qs : FVec F S512x64 .f32) (k : Vec F S1x128x1x64 .f32) : FVec F S512x128 .f32 :=
  exp (mulf (matmul dot_S512x64_S128x64_S512x128_1_1_0_0_n_n none qs (shapeCast S128x64 k shapeCasts_S1x128x1x64_S128x64)
      (constant S512x128 .f32 0x00000000#32))
    (broadcast S512x128 (Scalar.ofBits .f32 0x3E000000#32)))

/-- The row sums of the exponentials. -/
def rowSums (p : FVec F S512x128 .f32) : FVec F S512x1 .f32 :=
  shapeCast S512x1 (multiReduction .add [1] S512 p 0x00000000#32 reduces_S512x128_S512 (.inl rfl) rfl) shapeCasts_S512_S512x1

/-- The exponentials times one block of values. -/
def weighted (p : FVec F S512x128 .f32) (v : Vec F S1x128x1x64 .f32) : FVec F S512x64 .f32 :=
  matmul dot_S512x128_S128x64_S512x64_1_0_0_1_n_n none p (shapeCast S128x64 v shapeCasts_S1x128x1x64_S128x64)
    (constant S512x64 .f32 0x00000000#32)

theorem oSlice_inb : ∀ (j : Fin 4), S512x64.Slices ![128 * j.val, 0] S128x64 := by decide
theorem lSlice_inb : ∀ (j : Fin 4), S512x1.Slices ![128 * j.val, 0] S128x1 := by decide

/-- One head's part of the stacked numerators. -/
def oTile (o : FVec F S512x64 .f32) (j : Fin 4) : FVec F S128x64 .f32 :=
  shapeCast S128x64 (extractStridedSlice S128x64 ![128 * j.val, 0] o (oSlice_inb j)) shapeCasts_S128x64_S128x64

/-- One head's part of the stacked denominators. -/
def lTile (l : FVec F S512x1 .f32) (j : Fin 4) : FVec F S128x1 .f32 :=
  shapeCast S128x1 (extractStridedSlice S128x1 ![128 * j.val, 0] l (lSlice_inb j)) shapeCasts_S128x1_S128x1

theorem lCol_inb : ∀ (h : Fin 8), S8x8.Slices ![0, h.val] S8x1 := by decide

/-- Head `h`'s summed denominators, repeated over the head's 64 columns. -/
def lCol (acc : FVec F S8x520 .f32) (h : Fin 8) : FVec F S8x64 .f32 :=
  broadcastTo S8x64 (shapeCast S8x1 (extractStridedSlice S8x1 ![0, h.val]
    (extractStridedSlice S8x8 ![0, 512] acc slices_S8x520_o0_512_S8x8) (lCol_inb h)) shapeCasts_S8x1_S8x1) broadcasts_S8x1_S8x64

/-- The summed denominators under the summed numerators' columns. -/
def lAll (acc : FVec F S8x520 .f32) : FVec F S8x512 .f32 :=
  concatenate S8x512 1 [⟨S8x64, lCol acc 0⟩, ⟨S8x64, lCol acc 1⟩, ⟨S8x64, lCol acc 2⟩, ⟨S8x64, lCol acc 3⟩,
    ⟨S8x64, lCol acc 4⟩, ⟨S8x64, lCol acc 5⟩, ⟨S8x64, lCol acc 6⟩, ⟨S8x64, lCol acc 7⟩]
    concatenates_S8x64_S8x64_S8x64_S8x64_S8x64_S8x64_S8x64_S8x64_S8x512_d1

/-- One device's eight rows of the result: the quotients times the output weights. -/
def slab (acc : FVec F S8x520 .f32) (w : Vec F S512x512 .f32) : FVec F S8x512 .f32 :=
  shapeCast S8x512 (matmul dot_S8x512_S512x512_S8x512_1_0_0_1_n_n none
    (divf (extractStridedSlice S8x512 ![0, 0] acc slices_S8x520_o0_0_S8x512) (lAll acc))
    (shapeCast S512x512 w shapeCasts_S512x512_S512x512) (constant S8x512 .f32 0x00000000#32)) shapeCasts_S8x512_S8x512

/-! ## Steps -/

/-- The barrier semaphore. -/
@[reducible] def bar : Sem sig := (SemArray.scalar (sig.barrier 0 rfl) : Sems sig S_).sem

/-- Tell every device that this one has entered. -/
def signalAll : Core F PUnit := forEach devs fun d => semSignalWord (dev d) bar 1#32

/-- Store one head's numerators and denominators. Each store follows a read of the same place whose
    value is not used. -/
def storeHead (ol : Memref sig .tc .vmem S256x520 .f32) (b : Fin 2) (h : Fin 8) (o : FVec F S128x64 .f32)
    (l : FVec F S128x1 .f32) : Core F PUnit :=
  Prog.op (.load ol (oRect b h).toLoadRect (View.loadsAt_vmem h_S128x64)) fun _ =>
  Prog.op (.store ol (oRect b h) o Finset.univ (View.stores_vmem_bits_univ h_S128x64 rfl) (.inl rfl)) fun _ =>
  Prog.op (.load ol (lRect b h).toLoadRect (View.loadsAt_vmem h_S128x1)) fun _ =>
  Prog.op (.store ol (lRect b h) l Finset.univ (View.stores_vmem_bits_univ h_S128x1 rfl) (.inl rfl)) Prog.ret

/-- Query head `4 g + j`. -/
def headOf : Fin 2 → Fin 4 → Fin 8
  | 0, 0 => 0 | 0, 1 => 1 | 0, 2 => 2 | 0, 3 => 3
  | 1, 0 => 4 | 1, 1 => 5 | 1, 2 => 6 | 1, 3 => 7

/-- One key/value head of one batch: load its keys and values, store the four query heads' parts. -/
def kvStep (K V : Memref sig .tc .vmem S2x128x2x64 .f32) (ol : Memref sig .tc .vmem S256x520 .f32) (b : Fin 2)
    (q : FVec F S128x512 .f32) (g : Fin 2) : Core F PUnit :=
  Prog.op (.load K (kvRect b g).toLoadRect (View.loadsAt_vmem h_S1x128x1x64)) fun k =>
  Prog.op (.load V (kvRect b g).toLoadRect (View.loadsAt_vmem h_S1x128x1x64)) fun v =>
  forEach [0, 1, 2, 3] fun j => storeHead ol b (headOf g j)
    (oTile (weighted (weights (qGroup q g) k) v) j) (lTile (rowSums (weights (qGroup q g) k)) j)

/-- Send row block `d` to device `d`, into its row block for this device. -/
def send1 (ol rs : Memref sig .tc .vmem S256x520 .f32) (s1 r1 : DmaSems sig S32) (me : Dev nD) (d : Fin 32) : Core F PUnit :=
  Prog.op (.enqueueDma (block520 ol d) (.remote (Dev.tc (dev d)) (mine520 rs me) (.dma (semAt s1 d).sem))
    (.dma (semMine r1 me).sem) (View.wordExact_bits rfl) (View.wordExact_bits rfl) ⟨⟨rfl, Or.inl rfl⟩, trivial⟩) Prog.ret

/-- One batch: its queries, its two key/value heads, its 16 sends. -/
def batchStep (x : Memref sig .tc .vmem S2x128x512 .f32) (Wq : Memref sig .tc .vmem S512x512 .f32)
    (K V : Memref sig .tc .vmem S2x128x2x64 .f32) (ol rs : Memref sig .tc .vmem S256x520 .f32)
    (s1 r1 : DmaSems sig S32) (me : Dev nD) (b : Fin 2) : Core F PUnit :=
  Prog.op (.load x (xRect b).toLoadRect (View.loadsAt_vmem h_S1x128x512)) fun xv =>
  Prog.op (.load Wq wRect.toLoadRect (View.loadsAt_vmem h_S512x512)) fun wv =>
  Prog.bind (forEach [0, 1] (kvStep K V ol b (queries xv wv))) fun _ =>
  forEach (devsOf b) (send1 ol rs s1 r1 me)

/-- Wait for device `d`'s rows. -/
def wait1 (rs : Memref sig .tc .vmem S256x520 .f32) (r1 : DmaSems sig S32) (d : Fin 32) : Core F PUnit :=
  Prog.op (.waitDma2 (semAt r1 d).sem (block520 rs d) (block520 rs d) (View.wordExact_bits rfl) (View.wordExact_bits rfl)) Prog.ret

/-- Add the listed row blocks to `acc`, in order. -/
def addRows (rs : Memref sig .tc .vmem S256x520 .f32) : List (Fin 32) → FVec F S8x520 .f32 → Core F (FVec F S8x520 .f32)
  | [], acc => Prog.ret acc
  | d :: l, acc => Prog.op (.load rs (row520 d).toLoadRect (View.loadsAt_vmem h_S8x520)) fun (v : Vec F S8x520 .f32) =>
    addRows rs l (addf acc v)

/-- The sum of all 32 row blocks, the first one first. -/
def sumRows (rs : Memref sig .tc .vmem S256x520 .f32) : Core F (FVec F S8x520 .f32) :=
  Prog.op (.load rs (row520 0).toLoadRect (View.loadsAt_vmem h_S8x520)) fun (v : Vec F S8x520 .f32) =>
  addRows rs devs.tail v

/-- Store this device's rows of the result. -/
def storeSlab (Wo : Memref sig .tc .vmem S512x512 .f32) (os : Memref sig .tc .vmem S8x512 .f32) (acc : FVec F S8x520 .f32) :
    Core F PUnit :=
  Prog.op (.load Wo wRect.toLoadRect (View.loadsAt_vmem h_S512x512)) fun w =>
  Prog.op (.load os slabRect.toLoadRect (View.loadsAt_vmem h_S8x512)) fun _ =>
  Prog.op (.store os slabRect (slab acc w) Finset.univ (View.stores_vmem_bits_univ h_S8x512 rfl) (.inl rfl)) Prog.ret

/-- Send this device's rows of the result to device `d`. -/
def send2 (os : Memref sig .tc .vmem S8x512 .f32) (hos : os.IsWhole) (o2 : Memref sig .tc .vmem S256x512 .f32)
    (s2 r2 : DmaSems sig S32) (me : Dev nD) (d : Fin 32) : Core F PUnit :=
  Prog.op (.enqueueDma os (.remote (Dev.tc (dev d)) (mine512 o2 me) (.dma (semAt s2 d).sem))
    (.dma (semMine r2 me).sem) hos.wordExact (View.wordExact_bits rfl) ⟨⟨rfl, Or.inl rfl⟩, trivial⟩) Prog.ret

/-- Wait for device `d`'s rows of the result. -/
def wait2 (o2 : Memref sig .tc .vmem S256x512 .f32) (r2 : DmaSems sig S32) (d : Fin 32) : Core F PUnit :=
  Prog.op (.waitDma2 (semAt r2 d).sem (block512 o2 d) (block512 o2 d) (View.wordExact_bits rfl) (View.wordExact_bits rfl)) Prog.ret

/-- Copy batch `b` of the gathered rows to the result. -/
def copyOut (o2 : Memref sig .tc .vmem S256x512 .f32) (out : Memref sig .tc .vmem S2x128x512 .f32) (b : Fin 2) : Core F PUnit :=
  Prog.op (.load o2 (halfRect b).toLoadRect (View.loadsAt_vmem h_S128x512)) fun v =>
  Prog.op (.load out (xRect b).toLoadRect (View.loadsAt_vmem h_S1x128x512)) fun _ =>
  Prog.op (.store out (xRect b) (shapeCast S1x128x512 v shapeCasts_S128x512_S1x128x512) Finset.univ
    (View.stores_vmem_bits_univ h_S1x128x512 rfl) (.inl rfl)) Prog.ret

/-- Wait until both copies to device `d` have left. -/
def waitSent (ol rs : Memref sig .tc .vmem S256x520 .f32) (os : Memref sig .tc .vmem S8x512 .f32) (hos : os.IsWhole)
    (o2 : Memref sig .tc .vmem S256x512 .f32) (s1 s2 : DmaSems sig S32) (me : Dev nD) (d : Fin 32) : Core F PUnit :=
  Prog.op (.waitDma2 (semAt s1 d).sem (mine520 rs me) (block520 ol d) (View.wordExact_bits rfl) (View.wordExact_bits rfl)) fun _ =>
  Prog.op (.waitDma2 (semAt s2 d).sem (mine512 o2 me) os (View.wordExact_bits rfl) hos.wordExact) Prog.ret

/-- The whole body of one device. -/
def body (x : Memref sig .tc .vmem S2x128x512 .f32) (Wq Wo : Memref sig .tc .vmem S512x512 .f32)
    (K V : Memref sig .tc .vmem S2x128x2x64 .f32) (out : Memref sig .tc .vmem S2x128x512 .f32)
    (ol rs : Memref sig .tc .vmem S256x520 .f32) (os : Memref sig .tc .vmem S8x512 .f32) (hos : os.IsWhole)
    (o2 : Memref sig .tc .vmem S256x512 .f32) (s1 r1 s2 r2 : DmaSems sig S32) : Core F PUnit :=
  Prog.op .deviceId fun me =>
  Prog.bind signalAll fun _ =>
  Prog.bind (semWaitWord bar 32#32) fun _ =>
  Prog.bind (forEach [0, 1] (batchStep x Wq K V ol rs s1 r1 me)) fun _ =>
  Prog.bind (forEach devs (wait1 rs r1)) fun _ =>
  Prog.bind (sumRows rs) fun acc =>
  Prog.bind (storeSlab Wo os acc) fun _ =>
  Prog.bind (forEach devs (send2 os hos o2 s2 r2 me)) fun _ =>
  Prog.bind (forEach devs (wait2 o2 r2)) fun _ =>
  Prog.bind (forEach [0, 1] (copyOut o2 out)) fun _ =>
  forEach devs (waitSent ol rs os hos o2 s1 s2 me)

end Cert.KernelIdeal.Loop

end
-- ==== Proof.LoopEqIdeal.lean ====
module

public import proofs.«01_k».proof.Proof.LoopBodyIdeal

@[expose] public section

set_option synthInstance.maxSize 4096

noncomputable section

namespace Cert.KernelIdeal.Loop

open Idealize.ShloMosaic Idealize.SL.Sem Cert.KernelIdeal Cert.KernelIdeal.Gen

variable {F : FTy → Type} [FloatOps F]

set_option maxRecDepth 1000000 in
set_option maxHeartbeats 0 in
/-- The printed body is the body with loops. -/
theorem body_eq (arg0 : Memref sig .tc .vmem S2x128x512 .f32) (harg0 : arg0.IsWhole) (arg1 : Memref sig .tc .vmem S512x512 .f32)
    (harg1 : arg1.IsWhole) (arg2 : Memref sig .tc .vmem S512x512 .f32) (harg2 : arg2.IsWhole)
    (arg3 : Memref sig .tc .vmem S2x128x2x64 .f32) (harg3 : arg3.IsWhole) (arg4 : Memref sig .tc .vmem S2x128x2x64 .f32)
    (harg4 : arg4.IsWhole) (arg5 : Memref sig .tc .vmem S2x128x512 .f32) (harg5 : arg5.IsWhole)
    (arg6 : Memref sig .tc .vmem S256x520 .f32) (harg6 : arg6.IsWhole) (arg7 : Memref sig .tc .vmem S256x520 .f32)
    (harg7 : arg7.IsWhole) (arg8 : Memref sig .tc .vmem S8x512 .f32) (harg8 : arg8.IsWhole)
    (arg9 : Memref sig .tc .vmem S256x512 .f32) (harg9 : arg9.IsWhole) (arg10 arg11 arg12 arg13 : DmaSems sig S32) :
    cc0_body (F := F) arg0 harg0 arg1 harg1 arg2 harg2 arg3 harg3 arg4 harg4 arg5 harg5 arg6 harg6 arg7 harg7 arg8 harg8
        arg9 harg9 arg10 arg11 arg12 arg13
      = body arg0 arg1 arg2 arg3 arg4 arg5 arg6 arg7 arg8 harg8 arg9 arg10 arg11 arg12 arg13 := rfl

end Cert.KernelIdeal.Loop

end
-- ==== Proof.ProtocolIdeal.lean ====
/- The protocol of the kernel's semaphores, under the rounds library. Device `c` has a barrier cell
   and four families of 32 cells, one cell of each family per device `d`:

   * the first exchange, sending: the copy of row block `d` has left, and the rows are `c`'s again;
   * the first exchange, receiving: device `d`'s rows have arrived in `c`'s row block `d`;
   * the second exchange, sending: the copy of `c`'s result rows to `d` has left;
   * the second exchange, receiving: device `d`'s result rows have arrived in `c`'s row block `d`.

   Each cell is used for one round. A device enters by handing every device `d`, through `d`'s barrier
   cell, its own row blocks that `d` will write. -/
module

public import proofs.«01_k».proof.Proof.LoopEqIdeal
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option synthInstance.maxSize 4096

noncomputable section

namespace Cert.KernelIdeal.Loop

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 32)
abbrev UU : Type := UR sig nD τ × UB

local notation "𝕄" => MT nD τ sig Unit (Elt F) ℕ UU ℕ

/-- The pipeline library's part of the ghost state. -/
abbrev EP : Emb (UR sig nD τ) (MT nD τ sig Unit (Elt F) ℕ UU ℕ) := embL
/-- This protocol's part of the ghost state. -/
abbrev ER : Emb UB (MT nD τ sig Unit (Elt F) ℕ UU ℕ) := embR

/-! ## Buffers -/

abbrev olM : Memref sig .tc .vmem S256x520 .f32 := Memref.whole cc0_scratch0
abbrev rsM : Memref sig .tc .vmem S256x520 .f32 := Memref.whole cc0_scratch1
abbrev osM : Memref sig .tc .vmem S8x512 .f32 := Memref.whole cc0_scratch2
abbrev o2M : Memref sig .tc .vmem S256x512 .f32 := Memref.whole cc0_scratch3

/-- An index of the 256 × 520 buffers is in row block `d` when its row is. -/
theorem mem_row520 (d : Fin 32) (i : S256x520.Idx) : i ∈ (row520 d).set ↔ (i 0).val / 8 = d.val := by
  rw [LoadRect.mem_set]
  constructor
  · intro h
    obtain ⟨j, hj, e⟩ := h 0
    have hj' : j < 8 := hj
    have e' : (i 0).val = 8 * d.val + 1 * j := e
    omega
  · intro h a
    fin_cases a
    · exact ⟨(i 0).val % 8, Nat.mod_lt _ (by decide), by show (i 0).val = 8 * d.val + 1 * ((i 0).val % 8); omega⟩
    · exact ⟨(i 1).val, (i 1).isLt, by show (i 1).val = 0 + 1 * (i 1).val; omega⟩

/-- An index of the 256 × 512 buffers is in row block `d` when its row is. -/
theorem mem_row512 (d : Fin 32) (i : S256x512.Idx) : i ∈ (row512 d).set ↔ (i 0).val / 8 = d.val := by
  rw [LoadRect.mem_set]
  constructor
  · intro h
    obtain ⟨j, hj, e⟩ := h 0
    have hj' : j < 8 := hj
    have e' : (i 0).val = 8 * d.val + 1 * j := e
    omega
  · intro h a
    fin_cases a
    · exact ⟨(i 0).val % 8, Nat.mod_lt _ (by decide), by show (i 0).val = 8 * d.val + 1 * ((i 0).val % 8); omega⟩
    · exact ⟨(i 1).val, (i 1).isLt, by show (i 1).val = 0 + 1 * (i 1).val; omega⟩

/-! ## Cells -/

/-- A device's cells: the barrier's, and the four families'. -/
abbrev Kind : Type := Option (Fin 4 × Fin 32)

/-- The semaphore array of each family: first exchange sending and receiving, second exchange sending and receiving. -/
abbrev fam : Fin 4 → DmaSems sig S32
  | 0 => cc0_scratch4 | 1 => cc0_scratch5 | 2 => cc0_scratch6 | 3 => cc0_scratch7

/-- Where a family's semaphore `d` stands among the DMA semaphores. -/
theorem fam_val : ∀ (a : Fin 4) (d : Fin 32), (semAt (fam a) d).sem.val = 6 + 32 * a.val + d.val := by decide +kernel

/-- The semaphore of a cell. -/
def csem : Kind → SemLoc sig
  | none => .reg bar
  | some (a, d) => .dma (semAt (fam a) d).sem

/-- Which cell a semaphore is. -/
def kindOf : SemLoc sig → Option Kind
  | .reg s => if s = bar then some none else none
  | .dma q => if h : 6 ≤ q.val ∧ q.val < 134 then
      some (some (⟨(q.val - 6) / 32, by omega⟩, ⟨(q.val - 6) % 32, by omega⟩)) else none

theorem kindOf_csem (k : Kind) : kindOf (csem k) = some k := by
  rcases k with _ | ⟨a, d⟩
  · show (if bar = bar then some none else none) = some none
    rw [if_pos rfl]
  · have h := fam_val a d
    have ha := a.isLt
    have hd := d.isLt
    have hq : 6 ≤ (semAt (fam a) d).sem.val ∧ (semAt (fam a) d).sem.val < 134 := by omega
    show (if h : 6 ≤ (semAt (fam a) d).sem.val ∧ (semAt (fam a) d).sem.val < 134 then
      some (some (⟨((semAt (fam a) d).sem.val - 6) / 32, by omega⟩, ⟨((semAt (fam a) d).sem.val - 6) % 32, by omega⟩)) else none)
      = some (some (a, d))
    rw [dif_pos hq]
    have h1 : (⟨((semAt (fam a) d).sem.val - 6) / 32, by omega⟩ : Fin 4) = a := Fin.ext (by simp only; omega)
    have h2 : (⟨((semAt (fam a) d).sem.val - 6) % 32, by omega⟩ : Fin 32) = d := Fin.ext (by simp only; omega)
    rw [h1, h2]

theorem csem_injective : Function.Injective csem := fun k k' h => by
  have := congrArg kindOf h
  rw [kindOf_csem, kindOf_csem] at this
  exact Option.some.inj this

/-- Cell `k` of device `c`. -/
abbrev cell (c : Dev nD) (k : Kind) : GSem nD τ sig := ((c : Thread nD τ), csem k)

theorem cell_inj {c c' : Dev nD} {k k' : Kind} (h : cell c k = cell c' k') : c = c' ∧ k = k' :=
  ⟨congrArg (fun g : GSem nD τ sig => g.1.1) h, csem_injective (congrArg Prod.snd h)⟩

/-- The credit of a copy of one row block of the first exchange. -/
abbrev N₁ : ℕ := (block520 rsM 0).view.dmaCredit
/-- The credit of a copy of one row block of the second exchange. -/
abbrev N₂ : ℕ := (block512 o2M 0).view.dmaCredit

theorem N₁_pos : 0 < N₁ := View.dmaCredit_pos _ (by decide)
theorem N₂_pos : 0 < N₂ := View.dmaCredit_pos _ (by decide)

/-- The credit of a copy of a family. -/
def amt (a : Fin 4) : ℕ := if a.val < 2 then N₁ else N₂
theorem amt_pos (a : Fin 4) : 0 < amt a := by
  unfold amt; split
  · exact N₁_pos
  · exact N₂_pos

/-! ## Contents -/

/-- What every device's 256 × 520 send buffer and 8 × 512 result buffer hold when they are sent. -/
structure Vals (F : FTy → Type) [FloatOps F] where
  ol : Dev nD → (cc0_scratch0 : Ref sig .tc).ty.Contents (Elt F)
  sl : Dev nD → (cc0_scratch2 : Ref sig .tc).ty.Contents (Elt F)

variable (v : Vals F)

/-- The device whose row block holds row `r`. -/
def owner520 (i : S256x520.Idx) : Fin 32 := ⟨(i 0).val / 8, by have : (i 0).val < 256 := (i 0).isLt; omega⟩
/-- The device whose row block holds row `r`. -/
def owner512 (i : S256x512.Idx) : Fin 32 := ⟨(i 0).val / 8, by have : (i 0).val < 256 := (i 0).isLt; omega⟩
/-- The place inside its row block of an index. -/
def inner520 (i : S256x520.Idx) : S8x520.Idx :=
  Fin.cons (⟨(i 0).val % 8, Nat.mod_lt _ (by decide)⟩ : Fin 8) (Fin.cons (i 1) (fun a => a.elim0))
/-- The place inside its row block of an index. -/
def inner512 (i : S256x512.Idx) : S8x512.Idx :=
  Fin.cons (⟨(i 0).val % 8, Nat.mod_lt _ (by decide)⟩ : Fin 8) (Fin.cons (i 1) (fun a => a.elim0))

/-- What device `c` receives in the first exchange when the devices send `ol`: in row block `s` device `s`'s row block `c`. -/
def rsOf (ol : Dev nD → (cc0_scratch0 : Ref sig .tc).ty.Contents (Elt F)) (c : Dev nD) : (cc0_scratch1 : Ref sig .tc).ty.Contents (Elt F) :=
  fun i => ol (owner520 i) ((row520 c).emb (inner520 i))
/-- What device `c`'s receive buffer of the first exchange holds at the end. -/
def Vals.rs (c : Dev nD) : (cc0_scratch1 : Ref sig .tc).ty.Contents (Elt F) := rsOf v.ol c
/-- What every device's receive buffer of the second exchange holds at the end: in row block `s` device `s`'s result rows. -/
def Vals.o2 : (cc0_scratch3 : Ref sig .tc).ty.Contents (Elt F) :=
  fun i => v.sl (owner512 i) (inner512 i)

/-- Row block `d` of device `c`'s send buffer, at contents `f`. -/
def olPts (c : Dev nD) (d : Fin 32) (f : (cc0_scratch0 : Ref sig .tc).ty.Contents (Elt F)) : sProp 𝕄 :=
  ((c : Thread nD τ).loc cc0_scratch0) ↦[(block520 olM d).view.set]{fullShare} f
/-- Row block `d` of device `c`'s receive buffer of the first exchange, at contents `f`. -/
def rsPts (c : Dev nD) (d : Fin 32) (f : (cc0_scratch1 : Ref sig .tc).ty.Contents (Elt F)) : sProp 𝕄 :=
  ((c : Thread nD τ).loc cc0_scratch1) ↦[(block520 rsM d).view.set]{fullShare} f
/-- A share of device `c`'s result rows, at contents `f`. -/
def osPts (c : Dev nD) (q : PosShare TreeShare) (f : (cc0_scratch2 : Ref sig .tc).ty.Contents (Elt F)) : sProp 𝕄 :=
  ((c : Thread nD τ).loc cc0_scratch2) ↦[osM.view.set]{q} f
/-- Row block `d` of device `c`'s receive buffer of the second exchange, at contents `f`. -/
def o2Pts (c : Dev nD) (d : Fin 32) (f : (cc0_scratch3 : Ref sig .tc).ty.Contents (Elt F)) : sProp 𝕄 :=
  ((c : Thread nD τ).loc cc0_scratch3) ↦[(block512 o2M d).view.set]{fullShare} f

omit [FloatOps F] in
instance (c : Dev nD) (d : Fin 32) (f) : BI.Storable (upEmb : UEmb _ 𝕄) (olPts (F := F) c d f) := by unfold olPts; infer_instance
omit [FloatOps F] in
instance (c : Dev nD) (d : Fin 32) (f) : BI.Storable (upEmb : UEmb _ 𝕄) (rsPts (F := F) c d f) := by unfold rsPts; infer_instance
omit [FloatOps F] in
instance (c : Dev nD) (q f) : BI.Storable (upEmb : UEmb _ 𝕄) (osPts (F := F) c q f) := by unfold osPts; infer_instance
omit [FloatOps F] in
instance (c : Dev nD) (d : Fin 32) (f) : BI.Storable (upEmb : UEmb _ 𝕄) (o2Pts (F := F) c d f) := by unfold o2Pts; infer_instance

/-! ## The schedule -/

/-- What device `j`'s entry hands device `c`: `j`'s row blocks that `c` will write. -/
def barPay (c : Dev nD) (j : Fin 32) : sProp 𝕄 := iprop((∃ f, rsPts j c f) ∗ ∃ f, o2Pts j c f)

/-- What the completion of a copy hands the owner of its cell. -/
def pay : Fin 4 → Dev nD → Fin 32 → sProp 𝕄
  | 0, c, d => olPts c d (v.ol c)
  | 1, c, d => rsPts c d (v.rs c)
  | 2, c, d => osPts c (Transfers.shareTok fullShare 32 d) (v.sl c)
  | 3, c, d => o2Pts c d v.o2

instance (a : Fin 4) (c : Dev nD) (d : Fin 32) : BI.Storable (upEmb : UEmb _ 𝕄) (pay (F := F) v a c d) := by
  fin_cases a <;> (unfold pay; infer_instance)
omit [FloatOps F] in
instance (c : Dev nD) (d : Fin 32) : BI.Storable (upEmb : UEmb _ 𝕄) (barPay (F := F) c d) := by unfold barPay; infer_instance

/-- One round. A barrier cell has 32 duties of one unit, one per device; every other cell has one duty, of a copy's credit. -/
def sched : Rounds.Schedule (GSem nD τ sig) (Fin 32) 𝕄 where
  duties g r := if r = 0 ∧ g.1.2 = .tc then (match kindOf g.2 with | none => ∅ | some none => Finset.univ | some (some _) => {0}) else ∅
  unitless _ := False
  amount g _ _ := match kindOf g.2 with | some (some (a, _)) => amt a | _ => 1
  payload g _ j := match kindOf g.2 with | none => iprop(emp) | some none => barPay g.1.1 j | some (some (a, d)) => pay v a g.1.1 d
  amount_pos g _ _ _ := by
    rcases kindOf g.2 with _ | _ | ⟨a, d⟩
    · exact Nat.one_pos
    · exact Nat.one_pos
    · exact amt_pos a

instance (g : GSem nD τ sig) (r : ℕ) (j : Fin 32) : BI.Storable (upEmb : UEmb _ 𝕄) ((sched (F := F) v).payload g r j) := by
  show BI.Storable upEmb (match kindOf g.2 with | none => iprop(emp) | some none => barPay g.1.1 j | some (some (a, d)) => pay v a g.1.1 d)
  rcases kindOf g.2 with _ | _ | ⟨a, d⟩ <;> infer_instance

section Sched
variable (c : Dev nD) (a : Fin 4) (d : Fin 32)

theorem duties_bar : (sched v).duties (cell c none) 0 = Finset.univ := by
  dsimp only [sched]; rw [if_pos ⟨rfl, rfl⟩, kindOf_csem]
theorem duties_fam : (sched v).duties (cell c (some (a, d))) 0 = {0} := by
  dsimp only [sched]; rw [if_pos ⟨rfl, rfl⟩, kindOf_csem]
theorem duties_later (g : GSem nD τ sig) : ∀ r, 1 ≤ r → (sched v).duties g r = ∅ :=
  fun r hr => if_neg fun h => by omega
theorem amount_bar (j : Fin 32) : (sched v).amount (cell c none) 0 j = 1 := by
  dsimp only [sched]; rw [kindOf_csem]
theorem amount_fam (j : Fin 32) : (sched v).amount (cell c (some (a, d))) 0 j = amt a := by
  dsimp only [sched]; rw [kindOf_csem]
theorem payload_bar (j : Fin 32) : (sched v).payload (cell c none) 0 j = barPay c j := by
  dsimp only [sched]; rw [kindOf_csem]
theorem payload_fam (j : Fin 32) : (sched v).payload (cell c (some (a, d))) 0 j = pay v a c d := by
  dsimp only [sched]; rw [kindOf_csem]
theorem expect_bar : (sched v).expect (cell c none) 0 = 32 := by
  unfold Schedule.expect Schedule.amountOf
  rw [duties_bar, Finset.sum_congr rfl fun j _ => amount_bar v c j, Finset.sum_const, Finset.card_univ, Fintype.card_fin, smul_eq_mul]
theorem expect_fam : (sched v).expect (cell c (some (a, d))) 0 = amt a := by
  unfold Schedule.expect Schedule.amountOf; rw [duties_fam, Finset.sum_singleton, amount_fam]
/-- The whole barrier round: every device's row blocks for `c`. -/
theorem rest_bar : bigSep ((sched v).duties (cell c none) 0 \ ∅) (fun j => (sched v).payload (cell c none) 0 j)
    = bigSep Finset.univ fun j => barPay (F := F) c j := by
  rw [Finset.sdiff_empty, duties_bar]; exact bigSep_congr fun j _ => payload_bar v c j
/-- The whole round of a copy's cell: what the copy's completion hands over. -/
theorem rest_fam : bigSep ((sched v).duties (cell c (some (a, d))) 0 \ ∅) (fun j => (sched v).payload (cell c (some (a, d))) 0 j)
    = pay v a c d := by
  rw [Finset.sdiff_empty, duties_fam, bigSep_singleton, payload_fam]

end Sched

/-! ## What a device owes, and the levels -/

/-- The sum of `t` over a list. -/
def owe : List (Fin 32) → (Fin 32 → CellTallies nD τ sig Unit) → CellTallies nD τ sig Unit
  | [], _ => 0
  | d :: l, t => owe l t + t d

theorem owe_append (l l' : List (Fin 32)) (t : Fin 32 → CellTallies nD τ sig Unit) : owe (l ++ l') t = owe l' t + owe l t := by
  induction l with
  | nil => exact (add_zero _).symm
  | cons d l ih => show owe (l ++ l') t + t d = owe l' t + (owe l t + t d); rw [ih, add_assoc]

/-- Who owes a unit to whose barrier cell: every device one to every device `d`. -/
def oweBar (d : Fin 32) : CellTallies nD τ sig Unit := tallyAt (cell d none) () 1
/-- Device `c` owes device `d`'s cell of family `a` for `c` one copy. -/
def oweFam (a : Fin 4) (c : Dev nD) (d : Fin 32) : CellTallies nD τ sig Unit := tallyAt (cell d (some (a, c))) () (amt a)

/-- What device `c` owes after its entry: both exchanges' copies. -/
def O₁ (c : Dev nD) : CellTallies nD τ sig Unit := owe devs (oweFam 3 c) + owe devs (oweFam 1 c)
/-- What device `c` owes at launch. -/
def O₀ (c : Dev nD) : CellTallies nD τ sig Unit := O₁ c + owe devs oweBar

def L (g : GSem nD τ sig) : Finset Unit := if g.1.2 = .tc then {()} else ∅
/-- Barrier cells at 1, the first exchange's receive cells at 2, the second's at 3, all others at 0. -/
def lv (g : GSem nD τ sig) (_ : Unit) : ℕ :=
  match kindOf g.2 with
  | some none => 1
  | some (some (a, _)) => if a = 1 then 2 else if a = 3 then 3 else 0
  | none => 0

theorem L_of_ne (g : GSem nD τ sig) (h : g.1.2 ≠ .tc) : L g = ∅ := if_neg h
theorem L_cell (c : Dev nD) (k : Kind) : L (cell c k) = {()} := if_pos rfl

theorem lv_bar (c : Dev nD) : lv (cell c none) () = 1 := by unfold lv; rw [kindOf_csem]
theorem lv_fam (c : Dev nD) (a : Fin 4) (d : Fin 32) : lv (cell c (some (a, d))) () = if a = 1 then 2 else if a = 3 then 3 else 0 := by
  unfold lv; rw [kindOf_csem]

theorem owe_pos {l : List (Fin 32)} {t : Fin 32 → CellTallies nD τ sig Unit} {g : GSem nD τ sig} {u : Unit} (h : 0 < owe l t g u) :
    ∃ d, 0 < t d g u := by
  induction l with
  | nil => exact absurd h (Nat.lt_irrefl 0)
  | cons d l ih =>
    have h' : 0 < owe l t g u + t d g u := h
    by_cases hd : 0 < t d g u
    · exact ⟨d, hd⟩
    · exact ih (by omega)

theorem tallyAt_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

/-- Whatever cell `D` owes is at a level above `n`. -/
def Above (n : ℕ) (D : CellTallies nD τ sig Unit) : Prop := ∀ g u, 0 < D g u → ∃ c k, g = cell c k ∧ n < lv g ()

theorem Above.add {n : ℕ} {D D' : CellTallies nD τ sig Unit} (h : Above n D) (h' : Above n D') : Above n (D + D') := fun g u hg => by
  have hg' : 0 < D g u + D' g u := hg
  by_cases hd : 0 < D g u
  · exact h g u hd
  · exact h' g u (by omega)

theorem above_fam {n : ℕ} (a : Fin 4) (c : Dev nD) (h : n < if a = 1 then 2 else if a = 3 then 3 else 0) (l : List (Fin 32)) :
    Above n (owe l (oweFam a c)) := fun g u hg => by
  obtain ⟨d, hd⟩ := owe_pos hg
  have e := tallyAt_pos hd
  subst e
  exact ⟨d, _, rfl, by rw [lv_fam]; exact h⟩

theorem above_bar (l : List (Fin 32)) : Above 0 (owe l oweBar) := fun g u hg => by
  obtain ⟨d, hd⟩ := owe_pos hg
  have e := tallyAt_pos hd
  subst e
  exact ⟨d, _, rfl, by rw [lv_bar]; exact Nat.one_pos⟩

theorem above_O₁ (c : Dev nD) : Above 1 (O₁ c) := (above_fam 3 c (by decide) _).add (above_fam 1 c (by decide) _)
theorem above_O₀ (c : Dev nD) : Above 0 (O₀ c) := by
  refine Above.add (Above.add ?_ ?_) (above_bar _)
  · exact above_fam 3 c (by decide) _
  · exact above_fam 1 c (by decide) _

omit [FloatOps F] in
/-- A device may wait at a semaphore whose level is below everything it owes. -/
theorem mayWait (c : Dev nD) (sm : SemLoc sig) (n : ℕ) (D : CellTallies nD τ sig Unit) (hs : lv ((c : Thread nD τ), sm) () ≤ n) (hD : Above n D) :
    (levAts L lv : sProp 𝕄) ⊢ MayWait (c : Thread nD τ) sm () D :=
  MayOwe.of_cut (L := L) (lev := lv) n
    (fun p hp => by rw [Finset.mem_singleton.mp hp]; show () ∈ L ((c : Thread nD τ), sm); rw [show L ((c : Thread nD τ), sm) = {()} from if_pos rfl]; exact Finset.mem_singleton_self _)
    (fun g u hg => by obtain ⟨c', k, e, -⟩ := hD g u hg; rw [e, L_cell]; exact Finset.mem_singleton_self _)
    (fun p hp => by rw [Finset.mem_singleton.mp hp]; exact hs)
    (fun g u hg => by obtain ⟨c', k, e, h⟩ := hD g u hg; exact h)

/-! ## The ghost state -/

/-- Every cell's invariant and that every cell has reached its round. -/
def records (K : Dev nD × Kind → ℕ) : sProp 𝕄 :=
  iprop((bigSep Finset.univ fun ck : Dev nD × Kind => cellInv ER (sched v) (K ck) (cell ck.1 ck.2))
    ∗ bigSep Finset.univ fun ck : Dev nD × Kind => reached ER (cell ck.1 ck.2) 0)

instance records_persistent (K : Dev nD × Kind → ℕ) : BI.Persistent (records v K) := by unfold records; infer_instance

theorem inv_at (K : Dev nD × Kind → ℕ) (ck : Dev nD × Kind) :
    (bigSep Finset.univ fun ck : Dev nD × Kind => (cellInv ER (sched v) (K ck) (cell ck.1 ck.2) : sProp 𝕄)) ⊢ cellInv ER (sched v) (K ck) (cell ck.1 ck.2) :=
  bigSep_elim (Finset.mem_univ ck)
omit [FloatOps F] in
theorem reached_at (ck : Dev nD × Kind) :
    (bigSep Finset.univ fun ck : Dev nD × Kind => (reached ER (cell ck.1 ck.2) 0 : sProp 𝕄)) ⊢ reached ER (cell ck.1 ck.2) 0 :=
  bigSep_elim (Finset.mem_univ ck)

theorem records_inv (K : Dev nD × Kind → ℕ) (c : Dev nD) (k : Kind) : records v K ⊢ cellInv ER (sched v) (K (c, k)) (cell c k) := by
  unfold records
  iintro ⟨#H, -⟩
  iapply (inv_at v K (c, k)); iexact H

theorem records_reached (K : Dev nD × Kind → ℕ) (c : Dev nD) (k : Kind) : records v K ⊢ reached ER (cell c k) 0 := by
  unfold records
  iintro ⟨-, #H⟩
  iapply (reached_at (F := F) (c, k)); iexact H

/-- The duties device `c` pays: a unit to each device's barrier cell, its own send cells, its receive cell of each device. -/
def payToks (c : Dev nD) : sProp 𝕄 :=
  iprop((bigSep Finset.univ fun d : Fin 32 => dutyTok ER (cell d none) 0 c)
    ∗ (bigSep Finset.univ fun d : Fin 32 => dutyTok ER (cell c (some (0, d))) 0 0)
    ∗ (bigSep Finset.univ fun d : Fin 32 => dutyTok ER (cell d (some (1, c))) 0 0)
    ∗ (bigSep Finset.univ fun d : Fin 32 => dutyTok ER (cell c (some (2, d))) 0 0)
    ∗ bigSep Finset.univ fun d : Fin 32 => dutyTok ER (cell d (some (3, c))) 0 0)

/-- Device `c`'s positions: at the start of the one round of each of its cells. -/
def positions (c : Dev nD) : sProp 𝕄 :=
  iprop(atPos ER (cell c none) 0 ∅ 0
    ∗ (bigSep Finset.univ fun d : Fin 32 => atPos ER (cell c (some (0, d))) 0 ∅ 0)
    ∗ (bigSep Finset.univ fun d : Fin 32 => atPos ER (cell c (some (1, d))) 0 ∅ 0)
    ∗ (bigSep Finset.univ fun d : Fin 32 => atPos ER (cell c (some (2, d))) 0 ∅ 0)
    ∗ bigSep Finset.univ fun d : Fin 32 => atPos ER (cell c (some (3, d))) 0 ∅ 0)

/-- What device `c` may wait for: 32 entries, a copy from each device in each exchange. -/
def credits (c : Dev nD) : sProp 𝕄 :=
  iprop(cred (tallyAt (cell c none) () 32)
    ∗ (bigSep Finset.univ fun d : Fin 32 => cred (tallyAt (cell c (some (1, d))) () (amt 1)))
    ∗ bigSep Finset.univ fun d : Fin 32 => cred (tallyAt (cell c (some (3, d))) () (amt 3)))

/-- What device `c`'s body starts from. -/
def start (c : Dev nD) : sProp 𝕄 :=
  iprop((∃ K, records v K ∗ positions c ∗ payToks c) ∗ credits c ∗ levAts L lv)

end Cert.KernelIdeal.Loop

end
-- ==== Proof.StepsIdeal.lean ====
/- The communication steps of the body, each proved once for any device: an entry signal, the wait for
   all entries, a copy of each exchange, a wait for a copy. A rule for loops carries them over lists of
   devices. -/
module

public import proofs.«01_k».proof.Proof.ProtocolIdeal

@[expose] public section

set_option synthInstance.maxSize 4096

noncomputable section

namespace Cert.KernelIdeal.Loop

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`. -/
abbrev run (c : Dev nD) {α : Type} (p : Core F α) (Q : α → sProp 𝕄) : sProp 𝕄 :=
  wp frame (wpE (defs₀ (F := F)) 𝒱₀ (c : Thread nD τ) none) Set.univ p Q

/-! ## Loops -/

/-- `A` at every member of a list. -/
def each : List (Fin 32) → (Fin 32 → sProp 𝕄) → sProp 𝕄
  | [], _ => iprop(emp)
  | d :: l, A => iprop(A d ∗ each l A)

omit [FloatOps F] in
theorem each_eq (l : List (Fin 32)) (h : l.Nodup) (A : Fin 32 → sProp 𝕄) : each l A = bigSep l.toFinset A := by
  induction l with
  | nil => rfl
  | cons d l ih =>
    rw [List.toFinset_cons, bigSep_insert (by rw [List.mem_toFinset]; exact (List.nodup_cons.mp h).1), ← ih (List.nodup_cons.mp h).2]
    rfl

theorem devs_nodup : devs.Nodup := by decide
theorem devs_toFinset : devs.toFinset = Finset.univ := by decide

omit [FloatOps F] in
theorem each_devs (A : Fin 32 → sProp 𝕄) : each devs A = bigSep Finset.univ A := by
  rw [each_eq devs devs_nodup, devs_toFinset]

/-- A program after another. -/
theorem run_bind (c : Dev nD) {α β : Type} (p : Core F α) (k : α → Core F β) (Q : β → sProp 𝕄) :
    run c (Prog.bind p k) Q = run c p (fun a => run c (k a) Q) := wp_bind frame _ Set.univ p k Q

/-- A loop: each step turns its `A` into its `B` and moves `T` one member on. -/
theorem run_forEach (c : Dev nD) (R : sProp 𝕄) [BI.Persistent R] (A B : Fin 32 → sProp 𝕄) (T : List (Fin 32) → sProp 𝕄)
    (f : Fin 32 → Core F PUnit)
    (step : ∀ d l (Q : PUnit → sProp 𝕄), iprop(R ∗ A d ∗ T (d :: l)) ⊢ iprop((iprop(B d ∗ T l) -∗ Q ⟨⟩) -∗ run c (f d) Q))
    (l : List (Fin 32)) (Q : PUnit → sProp 𝕄) :
    iprop(R ∗ each l A ∗ T l) ⊢ iprop((iprop(each l B ∗ T []) -∗ Q ⟨⟩) -∗ run c (forEach l f) Q) := by
  induction l generalizing Q with
  | nil =>
    have h : run c (forEach [] f) Q = iprop(|={Set.univ}=> Q ⟨⟩) := wp_ret ..
    rw [h, show each [] A = iprop(emp) from rfl, show each [] B = iprop(emp) from rfl]
    iintro ⟨#HR, -, HT⟩ Hk
    imodintro
    iapply Hk
    isplitr; · iempintro
    iexact HT
  | cons d l ih =>
    show _ ⊢ iprop(_ -∗ run c (Prog.bind (f d) fun _ => forEach l f) Q)
    rw [run_bind]
    unfold each
    iintro ⟨#HR, ⟨HA, HAs⟩, HT⟩ Hk
    iapply (step d l _) $$ [HA HT]
    · isplitr; · iexact HR
      isplitl [HA] <;> iassumption
    iintro ⟨HB, HT⟩
    iapply (ih Q) $$ [HAs HT]
    · isplitr; · iexact HR
      isplitl [HAs] <;> iassumption
    iintro ⟨HBs, HT⟩
    iapply Hk
    isplitr [HT]
    · isplitl [HB] <;> iassumption
    · iexact HT

/-! ## What is owed -/

/-- Device `c` owes `D`, whatever it has waited for. -/
def debt (c : Dev nD) (D : CellTallies nD τ sig Unit) : sProp 𝕄 := iprop(∃ W, owes (c : Thread nD τ) D W)

variable (v : Vals F) (K : Dev nD × Kind → ℕ)

/-! ## The entry -/

theorem run_signal (c : Dev nD) (B : CellTallies nD τ sig Unit) (d : Fin 32) (l : List (Fin 32)) (Q : PUnit → sProp 𝕄) :
    iprop(records v K ∗ (dutyTok ER (cell d none) 0 c ∗ (∃ f, rsPts c d f) ∗ (∃ f, o2Pts c d f)) ∗ debt c (B + owe (d :: l) oweBar))
      ⊢ iprop((iprop(emp ∗ debt c (B + owe l oweBar)) -∗ Q ⟨⟩) -∗ run c (semSignalWord (dev d) bar 1#32) Q) := by
  unfold debt run
  simp only [semSignalWord, Prog.lift, Prog.bind_op, Prog.bind_ret, Prog.pure_eq_ret]
  iintro ⟨#HR, ⟨Ht, Hrs, Ho2⟩, ⟨%W, HO⟩⟩ Hk
  iapply (Rounds.wp_signal 𝒱₀ ER (sched v) (c : Thread nD τ) none (dst := ((d : Dev nD) : Thread nD τ)) (κ := K (d, none))
      (d := c) (r := 0) (by exact (duties_bar v d).symm ▸ Finset.mem_univ _) ((amount_bar v d c).trans (by decide)) ()
      (B + owe l oweBar) (by show B + (owe l oweBar + oweBar d) = _; rw [← add_assoc]; rfl)) $$ [HO Ht Hrs Ho2]
  · isplitr; · iapply (records_inv v K d none); iexact HR
    isplitl [HO]; · iexact HO
    isplitl [Ht]; · iexact Ht
    isplitl [Hrs Ho2]
    · iapply (show barPay d c ⊢ (sched v).payload (((d : Dev nD) : Thread nD τ), SemLoc.reg bar) 0 c from Entails.of_eq (payload_bar v d c).symm)
      unfold barPay
      isplitl [Hrs] <;> iassumption
    · iapply (records_reached v K d none); iexact HR
  iintro HO
  rw [wp_ret]; imodintro
  iapply Hk
  isplitr; · iempintro
  iexists W; iexact HO

/-- The wait for all 32 entries. -/
theorem run_barrier (c : Dev nD) (Q : PUnit → sProp 𝕄) :
    iprop((records v K ∗ levAts L lv) ∗ (cred (tallyAt (cell c none) () 32) ∗ atPos ER (cell c none) 0 ∅ 0) ∗ debt c (O₁ c))
      ⊢ iprop((iprop((atPos ER (cell c none) 1 ∅ 0 ∗ bigSep Finset.univ fun j => barPay (F := F) c j) ∗ debt c (O₁ c)) -∗ Q ⟨⟩)
        -∗ run c (semWaitWord bar 32#32) Q) := by
  unfold debt run
  simp only [semWaitWord, Prog.lift, Prog.bind_op, Prog.bind_ret, Prog.pure_eq_ret]
  iintro ⟨⟨#HR, #Hlev⟩, ⟨Hc, Hat⟩, ⟨%W, HO⟩⟩ Hk
  iapply (Rounds.wp_wait_rest_token 𝒱₀ ER (sched v) (c : Thread nD τ) none (κ := K (c, none)) (sm := csem none)
      (wpE_semWait_eq 𝒱₀ (c : Thread nD τ) none Set.univ) (Set.mem_univ _) () (O := O₁ c) (W := W) (R := 0) (m := 0) (T := ∅)
      (by rw [expect_bar]; decide)) $$ [HO Hc Hat]
  · isplitr; · iapply (records_inv v K c none); iexact HR
    isplitl [Hc]; · iexact Hc
    isplitl [HO]; · iexact HO
    isplitr; · iapply (mayWait c (csem none) 1 (O₁ c) (le_of_eq (lv_bar c)) (above_O₁ c)); iexact Hlev
    iexact Hat
  iintro ⟨HO, Hat, -, Hp⟩
  rw [wp_ret]; imodintro
  iapply Hk
  isplitr [HO]
  · isplitl [Hat]; · iexact Hat
    iapply (Entails.of_eq (rest_bar v c)); iexact Hp
  iexists _; iexact HO

/-! ## Waits for copies -/

/-- A wait for the copy of one of `c`'s own cells, whatever memrefs it names, when their credit is the cell's. -/
theorem run_wait (c : Dev nD) (a : Fin 4) (d : Fin 32) (D : CellTallies nD τ sig Unit)
    (hD : Above (if a = 1 then 2 else if a = 3 then 3 else 0) D)
    {s s' : Shape} {e e' : EltTy} {sp sp' : Space}
    {src : Memref sig .tc sp s e} {dst : Memref sig .tc sp' s' e'} {hsrc : src.view.WordExact} {hdst : dst.view.WordExact}
    (hN : dst.view.dmaCredit = amt a) {α : Type} (k : PUnit → Core F α) (Q : α → sProp 𝕄) :
    iprop((records v K ∗ levAts L lv) ∗ (cred (tallyAt (cell c (some (a, d))) () (amt a)) ∗ atPos ER (cell c (some (a, d))) 0 ∅ 0) ∗ debt c D)
      ⊢ iprop((iprop((atPos ER (cell c (some (a, d))) 1 ∅ 0 ∗ pay v a c d) ∗ debt c D) -∗ run c (k ⟨⟩) Q)
        -∗ run c (Prog.op (.waitDma2 (semAt (fam a) d).sem src dst hsrc hdst) k) Q) := by
  unfold debt run
  iintro ⟨⟨#HR, #Hlev⟩, ⟨Hc, Hat⟩, ⟨%W, HO⟩⟩ Hk
  iapply (Rounds.wp_wait_rest_token 𝒱₀ ER (sched v) (c : Thread nD τ) none (κ := K (c, some (a, d))) (sm := csem (some (a, d)))
      (wpE_waitDma2_eq 𝒱₀ (c : Thread nD τ) none Set.univ) (Set.mem_univ _) () (O := D) (W := W) (R := 0) (m := 0) (T := ∅)
      (by rw [expect_fam, Nat.zero_add, hN])) $$ [HO Hc Hat]
  · isplitr; · iapply (records_inv v K c (some (a, d))); iexact HR
    isplitl [Hc]; · rw [hN]; iexact Hc
    isplitl [HO]; · iexact HO
    isplitr; · iapply (mayWait c (csem (some (a, d))) _ D (le_of_eq (lv_fam c a d)) hD); iexact Hlev
    iexact Hat
  iintro ⟨HO, Hat, -, Hp⟩
  iapply Hk
  isplitr [HO]
  · isplitl [Hat]; · iexact Hat
    iapply (Entails.of_eq (rest_fam v c a d)); iexact Hp
  iexists _; iexact HO

/-! ## Copies -/

theorem emb_inner520 (d : Fin 32) (x : S8x520.Idx) : owner520 ((row520 d).emb x) = d ∧ inner520 ((row520 d).emb x) = x := by
  have h0 : ((row520 d).emb x 0).val = 8 * d.val + 1 * (x 0).val := rfl
  have h1 : ((row520 d).emb x 1).val = 0 + 1 * (x 1).val := rfl
  have hx : (x 0).val < 8 := (x 0).isLt
  refine ⟨Fin.ext (by show ((row520 d).emb x 0).val / 8 = d.val; omega), funext fun a => ?_⟩
  fin_cases a
  · exact Fin.ext (by show ((row520 d).emb x 0).val % 8 = (x 0).val; omega)
  · exact Fin.ext (by show ((row520 d).emb x 1).val = (x 1).val; omega)

theorem emb_inner512 (d : Fin 32) (x : S8x512.Idx) : owner512 ((row512 d).emb x) = d ∧ inner512 ((row512 d).emb x) = x := by
  have h0 : ((row512 d).emb x 0).val = 8 * d.val + 1 * (x 0).val := rfl
  have h1 : ((row512 d).emb x 1).val = 0 + 1 * (x 1).val := rfl
  have hx : (x 0).val < 8 := (x 0).isLt
  refine ⟨Fin.ext (by show ((row512 d).emb x 0).val / 8 = d.val; omega), funext fun a => ?_⟩
  fin_cases a
  · exact Fin.ext (by show ((row512 d).emb x 0).val % 8 = (x 0).val; omega)
  · exact Fin.ext (by show ((row512 d).emb x 1).val = (x 1).val; omega)

/-- Row block `d` of `c`'s send buffer, arrived in row block `c` of `d`'s receive buffer, is what that buffer is to hold there. -/
theorem arrived1 (c : Dev nD) (d : Fin 32) (fd : (cc0_scratch1 : Ref sig .tc).ty.Contents (Elt F)) :
    rsPts d c ((block520 rsM c).view.write (Elt F) fd ((block520 olM d).view.read (Elt F) (v.ol c)) Finset.univ) = rsPts d c (v.rs d) := by
  unfold rsPts
  refine pointsTo_congr fun i hi => ?_
  obtain ⟨x, -, rfl⟩ := Finset.mem_map.mp hi
  rw [View.write_emb_of_mem _ _ (Finset.mem_univ x)]
  have h := emb_inner520 c x
  show v.ol c ((row520 d).emb x) = v.ol (owner520 ((row520 c).emb x)) ((row520 d).emb (inner520 ((row520 c).emb x)))
  rw [h.1, h.2]

/-- `c`'s result rows, arrived in row block `c` of another device's receive buffer, are what that buffer is to hold there. -/
theorem arrived2 (c : Dev nD) (d : Fin 32) (fd : (cc0_scratch3 : Ref sig .tc).ty.Contents (Elt F)) :
    o2Pts d c ((block512 o2M c).view.write (Elt F) fd (osM.view.read (Elt F) (v.sl c)) Finset.univ) = o2Pts d c v.o2 := by
  unfold o2Pts
  refine pointsTo_congr fun i hi => ?_
  obtain ⟨x, -, rfl⟩ := Finset.mem_map.mp hi
  rw [View.write_emb_of_mem _ _ (Finset.mem_univ x)]
  have h := emb_inner512 c x
  show v.sl c x = v.sl (owner512 ((row512 c).emb x)) (inner512 ((row512 c).emb x))
  rw [h.1, h.2]

theorem semMine_eq (a : DmaSems sig S32) (me : Dev nD) : semMine a me = semAt a me := by
  unfold semMine semAt
  rw [SemArray.slice_unit_congr a (k0_off1_eq me)]

theorem mine520_eq (m : Memref sig .tc .vmem S256x520 .f32) (me : Dev nD) : mine520 m me = block520 m me :=
  Memref.slice_unit_congr m (k0_off2_eq me) ..

theorem mine512_eq (m : Memref sig .tc .vmem S256x512 .f32) (me : Dev nD) : mine512 m me = block512 m me :=
  Memref.slice_unit_congr m (k0_off3_eq me) ..

/-- The copy of row block `d` to device `d`. -/
theorem run_send1 (c : Dev nD) (B : CellTallies nD τ sig Unit) (d : Fin 32) (l : List (Fin 32)) (Q : PUnit → sProp 𝕄) :
    iprop(records v K ∗ (olPts c d (v.ol c) ∗ (∃ f, rsPts d c f) ∗ dutyTok ER (cell c (some (0, d))) 0 0 ∗ dutyTok ER (cell d (some (1, c))) 0 0)
        ∗ debt c (B + owe (d :: l) (oweFam 1 c)))
      ⊢ iprop((iprop(cred (tallyAt (cell c (some (0, d))) () (amt 0)) ∗ debt c (B + owe l (oweFam 1 c))) -∗ Q ⟨⟩)
        -∗ run c (send1 olM rsM cc0_scratch4 cc0_scratch5 c d) Q) := by
  unfold send1
  generalize_proofs h1 h2 h3 h4 h5 h6
  revert h1 h2 h3 h4 h5 h6
  rw [mine520_eq rsM c, semMine_eq cc0_scratch5 c]
  intro h1 h2 h3 h4 h5 h6
  unfold debt run
  iintro ⟨#HR, ⟨Hol, ⟨%fd, Hrs⟩, Ht, Ht'⟩, ⟨%W, HO⟩⟩ Hk
  unfold olPts rsPts
  iapply (Rounds.wp_send_pointsTo 𝒱₀ ER (sched v) (c : Thread nD τ) none (κ₁ := K (c, some (0, d))) (κ₂ := K (d, some (1, c)))
    (c' := ((d : Dev nD) : Thread nD τ)) (src := block520 olM d) (dst := block520 rsM c) (sS := csem (some (0, d))) (sem := csem (some (1, c)))
    (r₁ := 0) (r₂ := 0) (d₁ := 0) (d₂ := 0) (fs := v.ol c) (fd := fd)
    (by exact (duties_fam v c 0 d).symm ▸ Finset.mem_singleton_self _) (by exact (duties_fam v d 1 c).symm ▸ Finset.mem_singleton_self _)
    () () (amt 1) rfl (amount_fam v c 0 d 0) (amount_fam v d 1 c 0) (B + owe l (oweFam 1 c))
    (by show B + (owe l (oweFam 1 c) + oweFam 1 c d) = _; rw [← add_assoc]; rfl) (W := W)
    (by exact Entails.of_eq (payload_fam v c 0 d 0).symm)
    (by exact Entails.of_eq ((arrived1 v c d fd).trans (payload_fam v d 1 c 0).symm))) $$ [Hol Hrs HO Ht Ht']
  · isplitr; · iapply (records_inv v K c (some (0, d))); iexact HR
    isplitr; · iapply (records_inv v K d (some (1, c))); iexact HR
    isplitl [Hol]; · iexact Hol
    isplitl [Hrs]; · iexact Hrs
    isplitl [HO]; · iexact HO
    isplitl [Ht]; · iexact Ht
    isplitr; · iapply (records_reached v K c (some (0, d))); iexact HR
    isplitl [Ht']; · iexact Ht'
    iapply (records_reached v K d (some (1, c))); iexact HR
  iintro ⟨Hc, HO⟩
  rw [wp_ret]; imodintro
  iapply Hk
  isplitl [Hc]; · iexact Hc
  iexists W; iexact HO

/-- The copy of `c`'s result rows to device `d`. -/
theorem run_send2 (c : Dev nD) (B : CellTallies nD τ sig Unit) (d : Fin 32) (l : List (Fin 32)) (Q : PUnit → sProp 𝕄) :
    iprop(records v K ∗ (osPts c (Transfers.shareTok fullShare 32 d) (v.sl c) ∗ (∃ f, o2Pts d c f) ∗ dutyTok ER (cell c (some (2, d))) 0 0
          ∗ dutyTok ER (cell d (some (3, c))) 0 0)
        ∗ debt c (B + owe (d :: l) (oweFam 3 c)))
      ⊢ iprop((iprop(cred (tallyAt (cell c (some (2, d))) () (amt 2)) ∗ debt c (B + owe l (oweFam 3 c))) -∗ Q ⟨⟩)
        -∗ run c (send2 osM (Memref.isWhole_whole _) o2M cc0_scratch6 cc0_scratch7 c d) Q) := by
  unfold send2
  generalize_proofs h1 h2 h3 h4 h5 h6
  revert h1 h2 h3 h4 h5 h6
  rw [mine512_eq o2M c, semMine_eq cc0_scratch7 c]
  intro h1 h2 h3 h4 h5 h6
  unfold debt run
  iintro ⟨#HR, ⟨Hol, ⟨%fd, Hrs⟩, Ht, Ht'⟩, ⟨%W, HO⟩⟩ Hk
  unfold osPts o2Pts
  iapply (Rounds.wp_send_pointsTo 𝒱₀ ER (sched v) (c : Thread nD τ) none (κ₁ := K (c, some (2, d))) (κ₂ := K (d, some (3, c)))
    (c' := ((d : Dev nD) : Thread nD τ)) (src := osM) (dst := block512 o2M c) (sS := csem (some (2, d))) (sem := csem (some (3, c)))
    (r₁ := 0) (r₂ := 0) (d₁ := 0) (d₂ := 0) (fs := v.sl c) (fd := fd)
    (by exact (duties_fam v c 2 d).symm ▸ Finset.mem_singleton_self _) (by exact (duties_fam v d 3 c).symm ▸ Finset.mem_singleton_self _)
    () () (amt 3) rfl (amount_fam v c 2 d 0) (amount_fam v d 3 c 0) (B + owe l (oweFam 3 c))
    (by show B + (owe l (oweFam 3 c) + oweFam 3 c d) = _; rw [← add_assoc]; rfl) (W := W)
    (by exact Entails.of_eq (payload_fam v c 2 d 0).symm)
    (by exact Entails.of_eq ((arrived2 v c d fd).trans (payload_fam v d 3 c 0).symm))) $$ [Hol Hrs HO Ht Ht']
  · isplitr; · iapply (records_inv v K c (some (2, d))); iexact HR
    isplitr; · iapply (records_inv v K d (some (3, c))); iexact HR
    isplitl [Hol]; · iexact Hol
    isplitl [Hrs]; · iexact Hrs
    isplitl [HO]; · iexact HO
    isplitl [Ht]; · iexact Ht
    isplitr; · iapply (records_reached v K c (some (2, d))); iexact HR
    isplitl [Ht']; · iexact Ht'
    iapply (records_reached v K d (some (3, c))); iexact HR
  iintro ⟨Hc, HO⟩
  rw [wp_ret]; imodintro
  iapply Hk
  isplitl [Hc]; · iexact Hc
  iexists W; iexact HO

end Cert.KernelIdeal.Loop

end
-- ==== Proof.ComputeIdeal.lean ====
/- The computing steps of the body, each proved once: storing one head's numerators and denominators,
   one key/value head, the sum of the received rows, the result rows, the copy to the result. The
   values are named as functions of a device's inputs. -/
module

public import proofs.«01_k».proof.Proof.StepsIdeal

@[expose] public section

set_option synthInstance.maxSize 4096

noncomputable section

namespace Cert.KernelIdeal.Loop

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev xM : Memref sig .tc .vmem S2x128x512 .f32 := Memref.whole cc0_stg0_0
abbrev wqM : Memref sig .tc .vmem S512x512 .f32 := Memref.whole cc0_stg1_0
abbrev woM : Memref sig .tc .vmem S512x512 .f32 := Memref.whole cc0_stg2_0
abbrev kM : Memref sig .tc .vmem S2x128x2x64 .f32 := Memref.whole cc0_stg3_0
abbrev vM : Memref sig .tc .vmem S2x128x2x64 .f32 := Memref.whole cc0_stg4_0
abbrev outM : Memref sig .tc .vmem S2x128x512 .f32 := Memref.whole cc0_stg5_0

/-! ## The values -/

/-- A device's inputs. -/
structure Ins (F : FTy → Type) [FloatOps F] where
  x : FVec F S2x128x512 .f32
  wq : FVec F S512x512 .f32
  wo : FVec F S512x512 .f32
  k : FVec F S2x128x2x64 .f32
  v : FVec F S2x128x2x64 .f32

/-- The part of an array under a rectangle. -/
def cut {s : Shape} (r : Rect s) (f : FVec F s .f32) : FVec F r.shape .f32 := fun j => f (r.emb j)

variable (i : Ins F)

/-- Batch `b`'s queries. -/
def Ins.q (b : Fin 2) : FVec F S128x512 .f32 := queries (cut (xRect b) i.x) i.wq
/-- The exponentials of batch `b`, key/value head `g`. -/
def Ins.p (b g : Fin 2) : FVec F S512x128 .f32 := weights (qGroup (i.q b) g) (cut (kvRect b g) i.k)
/-- The numerators of query head `4 g + j` of batch `b`. -/
def Ins.o (b g : Fin 2) (j : Fin 4) : FVec F S128x64 .f32 := oTile (weighted (i.p b g) (cut (kvRect b g) i.v)) j
/-- The denominators of query head `4 g + j` of batch `b`. -/
def Ins.l (b g : Fin 2) (j : Fin 4) : FVec F S128x1 .f32 := lTile (rowSums (i.p b g)) j

/-- What a device's send buffer holds: numerators in columns 0 to 511, denominators in columns 512 to 519. -/
def Ins.ol : FVec F S256x520 .f32 := fun t =>
  have h0 : (t 0).val < 256 := (t 0).isLt
  have h1 : (t 1).val < 520 := (t 1).isLt
  if h : (t 1).val < 512 then
    i.o ⟨(t 0).val / 128, by omega⟩ ⟨(t 1).val / 256, by omega⟩ ⟨(t 1).val / 64 % 4, by omega⟩
      (Fin.cons (⟨(t 0).val % 128, by omega⟩ : Fin 128) (Fin.cons (⟨(t 1).val % 64, by omega⟩ : Fin 64) (fun a => a.elim0)))
  else
    i.l ⟨(t 0).val / 128, by omega⟩ ⟨((t 1).val - 512) / 4, by omega⟩ ⟨((t 1).val - 512) % 4, by omega⟩
      (Fin.cons (⟨(t 0).val % 128, by omega⟩ : Fin 128) (Fin.cons (⟨0, by omega⟩ : Fin 1) (fun a => a.elim0)))

/-- The sum of the 32 row blocks of a receive buffer, the first one first. -/
def accOf (rs : FVec F S256x520 .f32) : FVec F S8x520 .f32 :=
  devs.tail.foldl (fun acc d => addf acc (cut (row520 d) rs)) (cut (row520 0) rs)

/-- The result a device assembles from the gathered rows. -/
def outOf (o2 : FVec F S256x512 .f32) : FVec F S2x128x512 .f32 := fun t =>
  shapeCast S1x128x512 (cut (halfRect (t 0)) o2) shapeCasts_S128x512_S1x128x512
    (Fin.cons (0 : Fin 1) (Fin.cons (t 1) (Fin.cons (t 2) (fun a => a.elim0))))

/-- What the buffers hold when they are sent, given every device's inputs. -/
def vals (ins : Dev nD → Ins F) : Vals F where
  ol c := (ins c).ol
  sl c := slab (accOf (rsOf (fun d => (ins d).ol) c)) (ins c).wo

/-! ## The send buffer -/

/-- The rows of batch `b` in a 256 × 520 buffer. -/
def halfSet (b : Fin 2) : Finset S256x520.Idx := Finset.univ.filter fun t => (t 0).val / 128 = b.val

theorem mem_halfSet {b : Fin 2} {t : S256x520.Idx} : t ∈ halfSet b ↔ (t 0).val / 128 = b.val := by
  unfold halfSet; rw [Finset.mem_filter]; exact ⟨fun h => h.2, fun h => ⟨Finset.mem_univ _, h⟩⟩

/-- Batch `b`'s rows of device `c`'s send buffer, at contents `f`. -/
def halfPts (c : Dev nD) (b : Fin 2) (f : FVec F S256x520 .f32) : sProp 𝕄 :=
  ((c : Thread nD τ).loc cc0_scratch0) ↦[halfSet b]{fullShare} f

/-- In batch `b`'s rows the first `n` heads' columns of `f` are right. -/
def Done (b : Fin 2) (n : ℕ) (f : FVec F S256x520 .f32) : Prop :=
  ∀ t : S256x520.Idx, (t 0).val / 128 = b.val → ((t 1).val < 64 * n ∨ 512 ≤ (t 1).val ∧ (t 1).val < 512 + n) → f t = i.ol t

theorem headOf_val (g : Fin 2) (j : Fin 4) : (headOf g j).val = 4 * g.val + j.val := by
  revert g j; decide

theorem oRect_emb (b : Fin 2) (h : Fin 8) (x : S128x64.Idx) :
    ((oRect b h).emb x 0).val = 128 * b.val + 1 * (x 0).val ∧ ((oRect b h).emb x 1).val = 64 * h.val + 1 * (x 1).val := ⟨rfl, rfl⟩
theorem lRect_emb (b : Fin 2) (h : Fin 8) (x : S128x1.Idx) :
    ((lRect b h).emb x 0).val = 128 * b.val + 1 * (x 0).val ∧ ((lRect b h).emb x 1).val = 512 + h.val + 1 * (x 1).val := ⟨rfl, rfl⟩

theorem ol_oRect (b g : Fin 2) (j : Fin 4) (x : S128x64.Idx) : i.ol ((oRect b (headOf g j)).emb x) = i.o b g j x := by
  obtain ⟨e0, e1⟩ := oRect_emb b (headOf g j) x
  rw [headOf_val] at e1
  have hx0 : (x 0).val < 128 := (x 0).isLt
  have hx1 : (x 1).val < 64 := (x 1).isLt
  have hb := b.isLt
  have hg := g.isLt
  have hj := j.isLt
  unfold Ins.ol
  dsimp only
  rw [dif_pos (by omega)]
  congr 1
  iterate 3 exact Fin.ext (by dsimp only; omega)
  · funext a
    fin_cases a
    · exact Fin.ext (by show ((oRect b (headOf g j)).emb x 0).val % 128 = (x 0).val; omega)
    · exact Fin.ext (by show ((oRect b (headOf g j)).emb x 1).val % 64 = (x 1).val; omega)

theorem ol_lRect (b g : Fin 2) (j : Fin 4) (x : S128x1.Idx) : i.ol ((lRect b (headOf g j)).emb x) = i.l b g j x := by
  obtain ⟨e0, e1⟩ := lRect_emb b (headOf g j) x
  rw [headOf_val] at e1
  have hx0 : (x 0).val < 128 := (x 0).isLt
  have hx1 : (x 1).val < 1 := (x 1).isLt
  have hb := b.isLt
  have hg := g.isLt
  have hj := j.isLt
  unfold Ins.ol
  dsimp only
  rw [dif_neg (by omega)]
  congr 1
  iterate 3 exact Fin.ext (by dsimp only; omega)
  · funext a
    fin_cases a
    · exact Fin.ext (by show ((lRect b (headOf g j)).emb x 0).val % 128 = (x 0).val; omega)
    · exact Fin.ext (by show 0 = (x 1).val; omega)

/-- Off the numerators' and the denominators' place a store of one head changes nothing; there it puts what `ol` says. -/
theorem done_step (b g : Fin 2) (j : Fin 4) (n : ℕ) (hn : n = 4 * g.val + j.val) (f : FVec F S256x520 .f32) (hf : Done i b n f) :
    Done i b (n + 1) ((olM.access (lRect b (headOf g j))).write (Elt F)
      ((olM.access (oRect b (headOf g j))).write (Elt F) f (i.o b g j) Finset.univ) (i.l b g j) Finset.univ) := by
  intro t ht hc
  have hh := headOf_val g j
  by_cases hl : t ∈ (olM.access (lRect b (headOf g j))).setOn Finset.univ
  · obtain ⟨x, -, rfl⟩ := Finset.mem_map.mp hl
    rw [View.write_emb_of_mem _ _ (Finset.mem_univ x)]
    exact (ol_lRect i b g j x).symm
  rw [View.write_of_not_mem _ _ _ hl]
  by_cases ho : t ∈ (olM.access (oRect b (headOf g j))).setOn Finset.univ
  · obtain ⟨x, -, rfl⟩ := Finset.mem_map.mp ho
    rw [View.write_emb_of_mem _ _ (Finset.mem_univ x)]
    exact (ol_oRect i b g j x).symm
  rw [View.write_of_not_mem _ _ _ ho]
  refine hf t ht ?_
  have ht0 : (t 0).val < 256 := (t 0).isLt
  have hno : ¬ (64 * n ≤ (t 1).val ∧ (t 1).val < 64 * n + 64) := fun h => ho (by
    refine Finset.mem_map.mpr ⟨Fin.cons (⟨(t 0).val % 128, Nat.mod_lt _ (by decide)⟩ : Fin 128)
      (Fin.cons (⟨(t 1).val - 64 * n, by omega⟩ : Fin 64) (fun a => a.elim0)), Finset.mem_univ _, funext fun a => ?_⟩
    fin_cases a
    · exact Fin.ext (by show 128 * b.val + 1 * ((t 0).val % 128) = (t 0).val; omega)
    · exact Fin.ext (by show 64 * (headOf g j).val + 1 * ((t 1).val - 64 * n) = (t 1).val; omega))
  have hnl : ¬ ((t 1).val = 512 + n) := fun h => hl (by
    refine Finset.mem_map.mpr ⟨Fin.cons (⟨(t 0).val % 128, Nat.mod_lt _ (by decide)⟩ : Fin 128)
      (Fin.cons (⟨0, by decide⟩ : Fin 1) (fun a => a.elim0)), Finset.mem_univ _, funext fun a => ?_⟩
    fin_cases a
    · exact Fin.ext (by show 128 * b.val + 1 * ((t 0).val % 128) = (t 0).val; omega)
    · exact Fin.ext (by show 512 + (headOf g j).val + 1 * 0 = (t 1).val; omega))
  omega

theorem oRect_sub (b : Fin 2) (h : Fin 8) : (olM.access (oRect b h)).setOn Finset.univ ⊆ halfSet b := fun t ht => by
  obtain ⟨x, -, rfl⟩ := Finset.mem_map.mp ht
  rw [mem_halfSet]
  have hx0 : (x 0).val < 128 := (x 0).isLt
  show (128 * b.val + 1 * (x 0).val) / 128 = b.val
  omega

theorem lRect_sub (b : Fin 2) (h : Fin 8) : (olM.access (lRect b h)).setOn Finset.univ ⊆ halfSet b := fun t ht => by
  obtain ⟨x, -, rfl⟩ := Finset.mem_map.mp ht
  rw [mem_halfSet]
  have hx0 : (x 0).val < 128 := (x 0).isLt
  show (128 * b.val + 1 * (x 0).val) / 128 = b.val
  omega

/-- Batch `b`'s rows with the first `n` heads' columns right. -/
def filled (c : Dev nD) (b : Fin 2) (n : ℕ) : sProp 𝕄 := iprop(∃ f, ⌜Done i b n f⌝ ∗ halfPts c b f)

theorem run_storeHead (c : Dev nD) (b g : Fin 2) (j : Fin 4) (n : ℕ) (hn : n = 4 * g.val + j.val) (Q : PUnit → sProp 𝕄) :
    filled i c b n ⊢ iprop((filled i c b (n + 1) -∗ Q ⟨⟩) -∗ run c (storeHead olM b (headOf g j) (i.o b g j) (i.l b g j)) Q) := by
  unfold filled storeHead run halfPts
  iintro ⟨%f, %hf, H⟩ Hk
  iapply (wp_load_rect 𝒱₀ (c : Thread nD τ) none Set.univ (m := olM) (r := oRect b (headOf g j)) (oRect_sub b (headOf g j))) $$ H
  iintro H
  iapply (wp_store 𝒱₀ (c : Thread nD τ) none Set.univ (m := olM) (r := oRect b (headOf g j)) (Mk := Finset.univ) (oRect_sub b (headOf g j))) $$ H
  iintro H
  iapply (wp_load_rect 𝒱₀ (c : Thread nD τ) none Set.univ (m := olM) (r := lRect b (headOf g j)) (lRect_sub b (headOf g j))) $$ H
  iintro H
  iapply (wp_store 𝒱₀ (c : Thread nD τ) none Set.univ (m := olM) (r := lRect b (headOf g j)) (Mk := Finset.univ) (lRect_sub b (headOf g j))) $$ H
  iintro H
  rw [wp_ret]; imodintro
  iapply Hk
  iexists _
  isplitr
  · ipureintro; exact done_step i b g j n hn f hf
  iexact H

/-! ## One key/value head, one batch's computation -/

/-- A whole buffer of device `c`, at contents `f`. -/
abbrev whole (c : Dev nD) (b : Ref sig .tc) (f : b.ty.Contents (Elt F)) : sProp 𝕄 := ((c : Thread nD τ).loc b) ↦{fullShare} f

theorem forEach4 (c : Dev nD) (f : Fin 4 → Core F PUnit) (Q : PUnit → sProp 𝕄) :
    run c (forEach [0, 1, 2, 3] f) Q
      = run c (f 0) fun _ => run c (f 1) fun _ => run c (f 2) fun _ => run c (f 3) fun _ => run c (Prog.ret ⟨⟩) Q := by
  simp only [forEach, run_bind]

theorem forEach2 (c : Dev nD) (f : Fin 2 → Core F PUnit) (Q : PUnit → sProp 𝕄) :
    run c (forEach [0, 1] f) Q = run c (f 0) fun _ => run c (f 1) fun _ => run c (Prog.ret ⟨⟩) Q := by
  simp only [forEach, run_bind]

theorem run_ret (c : Dev nD) (Q : PUnit → sProp 𝕄) : run c (Prog.ret ⟨⟩) Q = iprop(|={Set.univ}=> Q ⟨⟩) := wp_ret ..

theorem run_kvStep (c : Dev nD) (b g : Fin 2) (n : ℕ) (hn : n = 4 * g.val) (Q : PUnit → sProp 𝕄) :
    iprop((whole c cc0_stg3_0 i.k ∗ whole c cc0_stg4_0 i.v) ∗ filled i c b n)
      ⊢ iprop((iprop((whole c cc0_stg3_0 i.k ∗ whole c cc0_stg4_0 i.v) ∗ filled i c b (n + 4)) -∗ Q ⟨⟩)
        -∗ run c (kvStep kM vM olM b (i.q b) g) Q) := by
  iintro ⟨⟨HK, HV⟩, H⟩ Hk
  unfold kvStep
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (Entails.of_eq (forEach4 c (fun j => storeHead olM b (headOf g j) (i.o b g j) (i.l b g j)) Q).symm)
  iapply (run_storeHead i c b g 0 n (by rw [hn]; rfl)) $$ H; iintro H
  iapply (run_storeHead i c b g 1 (n + 1) (by rw [hn]; rfl)) $$ H; iintro H
  iapply (run_storeHead i c b g 2 (n + 1 + 1) (by rw [hn]; rfl)) $$ H; iintro H
  iapply (run_storeHead i c b g 3 (n + 1 + 1 + 1) (by rw [hn]; rfl)) $$ H; iintro H
  rw [run_ret]; imodintro
  iapply Hk
  isplitl [HK HV]
  · isplitl [HK] <;> iassumption
  iexact H

/-! ## The received rows -/

theorem run_addRows (c : Dev nD) (rs : FVec F S256x520 .f32) (l : List (Fin 32)) (acc : FVec F S8x520 .f32) (Q : FVec F S8x520 .f32 → sProp 𝕄) :
    whole c cc0_scratch1 rs
      ⊢ iprop((whole c cc0_scratch1 rs -∗ Q (l.foldl (fun acc d => addf acc (cut (row520 d) rs)) acc)) -∗ run c (addRows rsM l acc) Q) := by
  induction l generalizing acc with
  | nil =>
    have h : run c (addRows rsM [] acc) Q = iprop(|={Set.univ}=> Q (List.foldl (fun acc d => addf acc (cut (row520 d) rs)) acc [])) := wp_ret ..
    rw [h]
    iintro H Hk
    imodintro
    iapply Hk; iexact H
  | cons d l ih =>
    unfold addRows
    iintro H Hk
    iapply (wp_load 𝒱₀ (c : Thread nD τ) none Set.univ (m := rsM) (Finset.subset_univ _)) $$ H; iintro H
    iapply (ih (addf acc (cut (row520 d) rs))) $$ H
    iexact Hk

theorem run_sumRows (c : Dev nD) (rs : FVec F S256x520 .f32) (Q : FVec F S8x520 .f32 → sProp 𝕄) :
    whole c cc0_scratch1 rs ⊢ iprop((whole c cc0_scratch1 rs -∗ Q (accOf rs)) -∗ run c (sumRows rsM) Q) := by
  unfold sumRows
  iintro H Hk
  iapply (wp_load 𝒱₀ (c : Thread nD τ) none Set.univ (m := rsM) (Finset.subset_univ _)) $$ H; iintro H
  iapply (run_addRows c rs devs.tail (cut (row520 0) rs)) $$ H
  iexact Hk

/-! ## The result rows -/

theorem zero2 : (![0, 0] : Fin 2 → Nat) = fun _ => 0 := funext fun a => by fin_cases a <;> rfl

theorem read_wo (f : FVec F S512x512 .f32) : woM.view.readAt (Elt F) wRect.toLoadRect f = f :=
  Memref.readAt_unit_zero (Elt F) cc0_stg2_0 zero2 _ f
theorem read_wq (f : FVec F S512x512 .f32) : wqM.view.readAt (Elt F) wRect.toLoadRect f = f :=
  Memref.readAt_unit_zero (Elt F) cc0_stg1_0 zero2 _ f
theorem write_os (f w : FVec F S8x512 .f32) : (osM.access slabRect : View sig .tc _ _ _).write (Elt F) f w Finset.univ = w :=
  Memref.write_access_unit_zero_univ (Elt F) cc0_scratch2 zero2 _ f w

theorem run_storeSlab (c : Dev nD) (wo : FVec F S512x512 .f32) (acc : FVec F S8x520 .f32) (Q : PUnit → sProp 𝕄) :
    iprop(whole c cc0_stg2_0 wo ∗ ∃ f, whole c cc0_scratch2 f)
      ⊢ iprop((iprop(whole c cc0_stg2_0 wo ∗ whole c cc0_scratch2 (slab acc wo)) -∗ Q ⟨⟩) -∗ run c (storeSlab woM osM acc) Q) := by
  unfold storeSlab
  iintro ⟨Hw, ⟨%f, Ho⟩⟩ Hk
  iapply (wp_load 𝒱₀ (c : Thread nD τ) none Set.univ (m := woM) (Finset.subset_univ _)) $$ Hw; iintro Hw
  rw [read_wo]
  iapply (wp_load 𝒱₀ (c : Thread nD τ) none Set.univ (m := osM) (Finset.subset_univ _)) $$ Ho; iintro Ho
  iapply (wp_store 𝒱₀ (c : Thread nD τ) none Set.univ (m := osM) (r := slabRect) (Mk := Finset.univ) (Finset.subset_univ _)) $$ Ho; iintro Ho
  rw [write_os, wp_ret]; imodintro
  iapply Hk
  isplitl [Hw] <;> iassumption

/-! ## The result -/

/-- The first `n` batches of `f` are right. -/
def OutDone (o2 : FVec F S256x512 .f32) (n : ℕ) (f : FVec F S2x128x512 .f32) : Prop := ∀ t, (t 0).val < n → f t = outOf o2 t

theorem outDone_step (o2 : FVec F S256x512 .f32) (b : Fin 2) (f : FVec F S2x128x512 .f32) (hf : OutDone o2 b.val f) :
    OutDone o2 (b.val + 1) ((outM.access (xRect b)).write (Elt F) f
      (shapeCast S1x128x512 (cut (halfRect b) o2) shapeCasts_S128x512_S1x128x512) Finset.univ) := by
  intro t ht
  by_cases hm : t ∈ (outM.access (xRect b)).setOn Finset.univ
  · obtain ⟨x, -, rfl⟩ := Finset.mem_map.mp hm
    rw [View.write_emb_of_mem _ _ (Finset.mem_univ x)]
    have hb : (xRect b).emb x 0 = b := Fin.ext (by
      have hx : (x 0).val < 1 := (x 0).isLt
      show b.val + 1 * (x 0).val = b.val; omega)
    have hx : x = (Fin.cons (0 : Fin 1) (Fin.cons ((xRect b).emb x 1) (Fin.cons ((xRect b).emb x 2) (fun a => a.elim0))) : S1x128x512.Idx) := by
      funext a
      fin_cases a
      · exact Fin.ext (by have hx : (x 0).val < 1 := (x 0).isLt; show (x 0).val = 0; omega)
      · exact Fin.ext (by show (x 1).val = 0 + 1 * (x 1).val; omega)
      · exact Fin.ext (by show (x 2).val = 0 + 1 * (x 2).val; omega)
    show shapeCast S1x128x512 (cut (halfRect b) o2) shapeCasts_S128x512_S1x128x512 x
      = shapeCast S1x128x512 (cut (halfRect ((xRect b).emb x 0)) o2) shapeCasts_S128x512_S1x128x512
        (Fin.cons (0 : Fin 1) (Fin.cons ((xRect b).emb x 1) (Fin.cons ((xRect b).emb x 2) (fun a => a.elim0))))
    rw [hb, ← hx]
  · rw [View.write_of_not_mem _ _ _ hm]
    refine hf t ?_
    by_contra hn
    refine hm (Finset.mem_map.mpr ⟨Fin.cons (0 : Fin 1) (Fin.cons (t 1) (Fin.cons (t 2) (fun a => a.elim0))), Finset.mem_univ _, funext fun a => ?_⟩)
    fin_cases a
    · exact Fin.ext (by show b.val + 1 * 0 = (t 0).val; omega)
    · exact Fin.ext (by show 0 + 1 * (t 1).val = (t 1).val; omega)
    · exact Fin.ext (by show 0 + 1 * (t 2).val = (t 2).val; omega)

theorem run_copyOut (c : Dev nD) (o2 : FVec F S256x512 .f32) (b : Fin 2) (Q : PUnit → sProp 𝕄) :
    iprop(whole c cc0_scratch3 o2 ∗ ∃ f, ⌜OutDone o2 b.val f⌝ ∗ whole c cc0_stg5_0 f)
      ⊢ iprop((iprop(whole c cc0_scratch3 o2 ∗ ∃ f, ⌜OutDone o2 (b.val + 1) f⌝ ∗ whole c cc0_stg5_0 f) -∗ Q ⟨⟩)
        -∗ run c (copyOut o2M outM b) Q) := by
  unfold copyOut
  iintro ⟨H2, ⟨%f, %hf, Ho⟩⟩ Hk
  iapply (wp_load 𝒱₀ (c : Thread nD τ) none Set.univ (m := o2M) (Finset.subset_univ _)) $$ H2; iintro H2
  iapply (wp_load 𝒱₀ (c : Thread nD τ) none Set.univ (m := outM) (Finset.subset_univ _)) $$ Ho; iintro Ho
  iapply (wp_store 𝒱₀ (c : Thread nD τ) none Set.univ (m := outM) (r := xRect b) (Mk := Finset.univ) (Finset.subset_univ _)) $$ Ho; iintro Ho
  rw [wp_ret]; imodintro
  iapply Hk
  isplitl [H2]; · iexact H2
  iexists _
  isplitr
  · ipureintro; exact outDone_step o2 b f hf
  iexact Ho

end Cert.KernelIdeal.Loop

end
-- ==== Proof.BodyIdeal.lean ====
/- The body of one device, from what it holds at entry to what it holds at exit: the buffers are split into
   row blocks for the two exchanges, the loops run by the steps, and the row blocks are put back. -/
module

public import proofs.«01_k».proof.Proof.ComputeIdeal

@[expose] public section

set_option synthInstance.maxSize 4096

noncomputable section

namespace Cert.KernelIdeal.Loop

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists -/

omit [FloatOps F] in
theorem sep_swap (P Q R S : sProp 𝕄) : iprop((P ∗ Q) ∗ R ∗ S) ⊢ iprop((P ∗ R) ∗ Q ∗ S) := by
  iintro ⟨⟨H1, H2⟩, H3, H4⟩
  isplitl [H1 H3]
  · isplitl [H1] <;> iassumption
  · isplitl [H2] <;> iassumption

omit [FloatOps F] in
theorem sep_left (P Q R : sProp 𝕄) : iprop((P ∗ Q) ∗ R) ⊢ iprop(P ∗ Q ∗ R) := by
  iintro ⟨⟨H1, H2⟩, H3⟩
  isplitl [H1]; · iexact H1
  isplitl [H2] <;> iassumption

omit [FloatOps F] in
theorem sep_right (P Q R : sProp 𝕄) : iprop(P ∗ Q ∗ R) ⊢ iprop((P ∗ Q) ∗ R) := by
  iintro ⟨H1, H2, H3⟩
  isplitl [H1 H2]
  · isplitl [H1] <;> iassumption
  · iexact H3

omit [FloatOps F] in
theorem each_sep (l : List (Fin 32)) (A B : Fin 32 → sProp 𝕄) : each l (fun d => iprop(A d ∗ B d)) = iprop(each l A ∗ each l B) := by
  induction l with
  | nil => exact (equiv_iff.mp emp_sep).symm
  | cons d l ih =>
    show iprop((A d ∗ B d) ∗ each l fun d => iprop(A d ∗ B d)) = iprop((A d ∗ each l A) ∗ B d ∗ each l B)
    rw [ih]
    exact equiv_iff.mp ⟨sep_swap _ _ _ _, sep_swap _ _ _ _⟩

omit [FloatOps F] in
theorem each_append (l l' : List (Fin 32)) (A : Fin 32 → sProp 𝕄) : each (l ++ l') A = iprop(each l A ∗ each l' A) := by
  induction l with
  | nil => exact (equiv_iff.mp emp_sep).symm
  | cons d l ih =>
    show iprop(A d ∗ each (l ++ l') A) = iprop((A d ∗ each l A) ∗ each l' A)
    rw [ih]
    exact equiv_iff.mp ⟨sep_right _ _ _, sep_left _ _ _⟩

theorem devs_append : devs = devsOf 0 ++ devsOf 1 := by decide
theorem devsOf_nodup : ∀ b, (devsOf b).Nodup := by decide
theorem mem_devsOf : ∀ (b : Fin 2) (d : Fin 32), d ∈ devsOf b ↔ d.val / 16 = b.val := by decide

omit [FloatOps F] in
theorem each_halves (A : Fin 32 → sProp 𝕄) : each devs A = iprop(each (devsOf 0) A ∗ each (devsOf 1) A) := by
  rw [devs_append, each_append]

/-! ## Buffers in row blocks -/

theorem set_ol (d : Fin 32) : (block520 olM d).view.set = (row520 d).set := View.set_slice_whole _ _
theorem set_rs (d : Fin 32) : (block520 rsM d).view.set = (row520 d).set := View.set_slice_whole _ _
theorem set_o2 (d : Fin 32) : (block512 o2M d).view.set = (row512 d).set := View.set_slice_whole _ _
theorem set_os : osM.view.set = Finset.univ := View.set_whole _

theorem row520_disjoint (d d' : Fin 32) (h : d ≠ d') : Disjoint (row520 d).set (row520 d').set :=
  Finset.disjoint_left.mpr fun t ht ht' => h (Fin.ext ((mem_row520 d t).mp ht ▸ (mem_row520 d' t).mp ht'))
theorem row512_disjoint (d d' : Fin 32) (h : d ≠ d') : Disjoint (row512 d).set (row512 d').set :=
  Finset.disjoint_left.mpr fun t ht ht' => h (Fin.ext ((mem_row512 d t).mp ht ▸ (mem_row512 d' t).mp ht'))

theorem cover520 (t : S256x520.Idx) : t ∈ (Finset.univ : Finset S256x520.Idx) ↔ ∃ d ∈ (Finset.univ : Finset (Fin 32)), t ∈ (row520 d).set :=
  ⟨fun _ => ⟨owner520 t, Finset.mem_univ _, (mem_row520 _ t).mpr rfl⟩, fun _ => Finset.mem_univ _⟩
theorem cover512 (t : S256x512.Idx) : t ∈ (Finset.univ : Finset S256x512.Idx) ↔ ∃ d ∈ (Finset.univ : Finset (Fin 32)), t ∈ (row512 d).set :=
  ⟨fun _ => ⟨owner512 t, Finset.mem_univ _, (mem_row512 _ t).mpr rfl⟩, fun _ => Finset.mem_univ _⟩
theorem coverHalf (b : Fin 2) (t : S256x520.Idx) : t ∈ halfSet b ↔ ∃ d ∈ (devsOf b).toFinset, t ∈ (row520 d).set := by
  rw [mem_halfSet]
  have ht : (t 0).val < 256 := (t 0).isLt
  constructor
  · intro h
    refine ⟨owner520 t, List.mem_toFinset.mpr ((mem_devsOf b _).mpr ?_), (mem_row520 _ t).mpr rfl⟩
    show (t 0).val / 8 / 16 = b.val
    omega
  · rintro ⟨d, hd, h⟩
    have h1 := (mem_devsOf b d).mp (List.mem_toFinset.mp hd)
    have h2 := (mem_row520 d t).mp h
    omega

omit [FloatOps F] in
/-- A set of a buffer's places, held, is held part by part when the parts are disjoint and make it up. -/
theorem rows_of {ℓ : Loc nD τ sig} (S : Finset (Fin 32)) (P : Fin 32 → Finset (Idx ℓ)) (H : Finset (Idx ℓ)) (f : Buf (Elt F) ℓ)
    (hd : ∀ d d', d ≠ d' → Disjoint (P d) (P d')) (hm : ∀ t, t ∈ H ↔ ∃ d ∈ S, t ∈ P d) :
    (ℓ ↦[H]{fullShare} f : sProp 𝕄) = bigSep S fun d => ℓ ↦[P d]{fullShare} f := by
  rw [← pointsTo_biUnion S P fun d _ d' _ h => hd d d' h]
  congr 1
  ext t
  rw [Finset.mem_biUnion]
  exact hm t

variable (c : Dev nD)

omit [FloatOps F] in
theorem half_rows (b : Fin 2) (f : FVec F S256x520 .f32) : halfPts c b f = each (devsOf b) fun d => olPts c d f := by
  rw [each_eq _ (devsOf_nodup b)]
  unfold halfPts olPts
  exact rows_of (ℓ := (c : Thread nD τ).loc cc0_scratch0) _ (fun d => (block520 olM d).view.set) (halfSet b) f
    (fun d d' h => by rw [set_ol, set_ol]; exact row520_disjoint d d' h)
    fun t => (coverHalf b t).trans (exists_congr fun d => and_congr_right fun _ => by rw [set_ol])
omit [FloatOps F] in
theorem ol_rows (f : FVec F S256x520 .f32) : whole c cc0_scratch0 f = each devs fun d => olPts c d f := by
  rw [each_devs]
  unfold olPts
  exact rows_of (ℓ := (c : Thread nD τ).loc cc0_scratch0) _ (fun d => (block520 olM d).view.set) Finset.univ f
    (fun d d' h => by rw [set_ol, set_ol]; exact row520_disjoint d d' h)
    fun t => (cover520 t).trans (exists_congr fun d => and_congr_right fun _ => by rw [set_ol])
omit [FloatOps F] in
theorem rs_rows (f : FVec F S256x520 .f32) : whole c cc0_scratch1 f = each devs fun d => rsPts c d f := by
  rw [each_devs]
  unfold rsPts
  exact rows_of (ℓ := (c : Thread nD τ).loc cc0_scratch1) _ (fun d => (block520 rsM d).view.set) Finset.univ f
    (fun d d' h => by rw [set_rs, set_rs]; exact row520_disjoint d d' h)
    fun t => (cover520 t).trans (exists_congr fun d => and_congr_right fun _ => by rw [set_rs])
omit [FloatOps F] in
theorem o2_rows (f : FVec F S256x512 .f32) : whole c cc0_scratch3 f = each devs fun d => o2Pts c d f := by
  rw [each_devs]
  unfold o2Pts
  exact rows_of (ℓ := (c : Thread nD τ).loc cc0_scratch3) _ (fun d => (block512 o2M d).view.set) Finset.univ f
    (fun d d' h => by rw [set_o2, set_o2]; exact row512_disjoint d d' h)
    fun t => (cover512 t).trans (exists_congr fun d => and_congr_right fun _ => by rw [set_o2])

/-- What is left of the whole share when the 32 sends have theirs. -/
abbrev rest : PosShare TreeShare := Transfers.shareDrop fullShare 32

omit [FloatOps F] in
theorem os_split (f : FVec F S8x512 .f32) :
    whole c cc0_scratch2 f ⊢ iprop(osPts c rest f ∗ each devs fun d => osPts c (Transfers.shareTok fullShare 32 d) f) := by
  rw [each_devs]; unfold osPts; rw [set_os]; exact Transfers.pointsTo_toks_split fullShare 32
omit [FloatOps F] in
theorem os_join (f : FVec F S8x512 .f32) :
    iprop(osPts c rest f ∗ each devs fun d => osPts c (Transfers.shareTok fullShare 32 d) f) ⊢ whole c cc0_scratch2 f := by
  rw [each_devs]; unfold osPts; rw [set_os]; exact Transfers.pointsTo_toks_join fullShare 32

omit [FloatOps F] in
theorem each_exists {X : Type} (l : List (Fin 32)) (A : Fin 32 → X → sProp 𝕄) (f : X) : each l (fun d => A d f) ⊢ each l fun d => iprop(∃ f, A d f) := by
  induction l with
  | nil => exact entails_refl _
  | cons d l ih =>
    unfold each
    iintro ⟨H, Hs⟩
    isplitl [H]; · iexists f; iexact H
    iapply ih; iexact Hs

variable (v : Vals F) (K : Dev nD × Kind → ℕ)

/-! ## The entry -/

theorem run_signalAll (Q : PUnit → sProp 𝕄) :
    iprop(records v K ∗ (each devs fun d => dutyTok ER (cell d none) 0 c) ∗ (∃ f, whole c cc0_scratch1 f) ∗ (∃ f, whole c cc0_scratch3 f) ∗ debt c (O₀ c))
      ⊢ iprop((debt c (O₁ c) -∗ Q ⟨⟩) -∗ run c signalAll Q) := by
  have h := run_forEach c (records v K)
    (fun d => iprop(dutyTok ER (cell d none) 0 c ∗ (∃ f, rsPts (F := F) c d f) ∗ ∃ f, o2Pts (F := F) c d f)) (fun _ => iprop(emp))
    (fun l => debt c (O₁ c + owe l oweBar)) (fun d => semSignalWord (dev d) bar 1#32)
    (fun d l Q => run_signal v K c (O₁ c) d l Q) devs Q
  rw [each_sep, each_sep] at h
  unfold signalAll
  iintro ⟨#HR, Ht, ⟨%f, Hrs⟩, ⟨%g, Ho2⟩, HO⟩ Hk
  iapply h $$ [Ht Hrs Ho2 HO]
  · isplitr; · iexact HR
    isplitr [HO]
    · isplitl [Ht]; · iexact Ht
      isplitl [Hrs]
      · iapply (each_exists devs (fun d f => rsPts (F := F) c d f) f); iapply (Entails.of_eq (rs_rows c f)); iexact Hrs
      · iapply (each_exists devs (fun d f => o2Pts (F := F) c d f) g); iapply (Entails.of_eq (o2_rows c g)); iexact Ho2
    · iexact HO
  iintro ⟨-, HO⟩
  iapply Hk
  iapply (show debt c (O₁ c + owe [] oweBar) ⊢ debt (F := F) c (O₁ c) from Entails.of_eq (by rw [show owe [] oweBar = 0 from rfl, add_zero]))
  iexact HO

/-! ## The batches -/

variable (ins : Dev nD → Ins F)

/-- What the send of row block `d` uses besides the block. -/
def sendRight (d : Fin 32) : sProp 𝕄 :=
  iprop((∃ f, rsPts (F := F) d c f) ∗ dutyTok ER (cell c (some (0, d))) 0 0 ∗ dutyTok ER (cell d (some (1, c))) 0 0)

theorem done_all (i : Ins F) (b : Fin 2) (f : FVec F S256x520 .f32) (h : Done i b 8 f) : halfPts c b f ⊢ halfPts c b i.ol := by
  unfold halfPts
  refine Entails.of_eq (pointsTo_congr fun t ht => h t (mem_halfSet.mp ht) ?_)
  have h1 : (t 1).val < 520 := (t 1).isLt
  omega

theorem run_batchStep (b : Fin 2) (B : CellTallies nD τ sig Unit) (Q : PUnit → sProp 𝕄) :
    iprop(records (vals ins) K
        ∗ (whole c cc0_stg0_0 (ins c).x ∗ whole c cc0_stg1_0 (ins c).wq ∗ whole c cc0_stg3_0 (ins c).k ∗ whole c cc0_stg4_0 (ins c).v)
        ∗ (∃ f, halfPts c b f) ∗ each (devsOf b) (sendRight c) ∗ debt c (B + owe (devsOf b) (oweFam 1 c)))
      ⊢ iprop((iprop((whole c cc0_stg0_0 (ins c).x ∗ whole c cc0_stg1_0 (ins c).wq ∗ whole c cc0_stg3_0 (ins c).k ∗ whole c cc0_stg4_0 (ins c).v)
            ∗ each (devsOf b) (fun d => cred (tallyAt (cell c (some (0, d))) () (amt 0))) ∗ debt c B) -∗ Q ⟨⟩)
        -∗ run c (batchStep xM wqM kM vM olM rsM cc0_scratch4 cc0_scratch5 c b) Q) := by
  have h := run_forEach c (records (vals ins) K) (fun d => iprop(olPts c d (ins c).ol ∗ sendRight c d))
    (fun d => cred (tallyAt (cell c (some (0, d))) () (amt 0))) (fun l => debt c (B + owe l (oweFam 1 c)))
    (send1 olM rsM cc0_scratch4 cc0_scratch5 c) (fun d l Q => run_send1 (vals ins) K c B d l Q) (devsOf b) Q
  rw [each_sep] at h
  unfold batchStep
  iintro ⟨#HR, ⟨Hx, Hq, Hkk, Hv⟩, ⟨%f, Hol⟩, Hs, HO⟩ Hk
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hq; iintro Hq
  rw [read_wq]
  iapply (Entails.of_eq (run_bind c (forEach [0, 1] (kvStep kM vM olM b ((ins c).q b)))
    (fun _ => forEach (devsOf b) (send1 olM rsM cc0_scratch4 cc0_scratch5 c)) Q).symm)
  iapply (Entails.of_eq (forEach2 c (kvStep kM vM olM b ((ins c).q b)) _).symm)
  iapply (run_kvStep (ins c) c b 0 0 rfl) $$ [Hkk Hv Hol]
  · isplitl [Hkk Hv]
    · isplitl [Hkk] <;> iassumption
    unfold filled
    iexists f
    isplitr
    · ipureintro; exact fun t _ ht => absurd ht (by omega)
    iexact Hol
  iintro ⟨⟨Hkk, Hv⟩, Hol⟩
  iapply (run_kvStep (ins c) c b 1 (0 + 4) rfl) $$ [Hkk Hv Hol]
  · isplitl [Hkk Hv]
    · isplitl [Hkk] <;> iassumption
    iexact Hol
  iintro ⟨⟨Hkk, Hv⟩, Hol⟩
  rw [run_ret]; imodintro
  unfold filled
  icases Hol with ⟨%f', %hf', Hol⟩
  iapply h $$ [Hol Hs HO]
  · isplitr; · iexact HR
    isplitr [HO]
    · isplitl [Hol]
      · iapply (Entails.of_eq (half_rows c b (ins c).ol)); iapply (done_all c (ins c) b f' hf'); iexact Hol
      · iexact Hs
    · iexact HO
  iintro ⟨Hc, HO⟩
  iapply Hk
  isplitl [Hx Hq Hkk Hv]
  · isplitl [Hx]; · iexact Hx
    isplitl [Hq]; · iexact Hq
    isplitl [Hkk] <;> iassumption
  isplitl [Hc]; · iexact Hc
  iapply (show debt c (B + owe [] (oweFam 1 c)) ⊢ debt (F := F) c B from Entails.of_eq (by rw [show owe [] (oweFam 1 c) = 0 from rfl, add_zero]))
  iexact HO

/-! ## The waits -/

theorem run_wait1 (Q : PUnit → sProp 𝕄) :
    iprop((records v K ∗ levAts L lv)
        ∗ ((each devs fun d => cred (tallyAt (cell c (some (1, d))) () (amt 1))) ∗ each devs fun d => atPos ER (cell c (some (1, d))) 0 ∅ 0)
        ∗ debt c (owe devs (oweFam 3 c)))
      ⊢ iprop((iprop(((each devs fun d => atPos ER (cell c (some (1, d))) 1 ∅ 0) ∗ whole c cc0_scratch1 (v.rs c)) ∗ debt c (owe devs (oweFam 3 c))) -∗ Q ⟨⟩)
        -∗ run c (forEach devs (wait1 rsM cc0_scratch5)) Q) := by
  have h := run_forEach c iprop(records v K ∗ levAts L lv)
    (fun d => iprop(cred (tallyAt (cell c (some (1, d))) () (amt 1)) ∗ atPos ER (cell c (some (1, d))) 0 ∅ 0))
    (fun d => iprop(atPos ER (cell c (some (1, d))) 1 ∅ 0 ∗ rsPts c d (v.rs c))) (fun _ => debt c (owe devs (oweFam 3 c))) (wait1 rsM cc0_scratch5)
    (fun d l Q => by
      unfold wait1
      iintro H Hk
      iapply (run_wait v K c 1 d (owe devs (oweFam 3 c)) (above_fam 3 c (by decide) _) (by rfl) Prog.ret Q) $$ H
      iintro H
      rw [run_ret]; imodintro
      iapply Hk; iexact H) devs Q
  rw [each_sep, each_sep, ← rs_rows] at h
  exact h

theorem run_wait2 (Q : PUnit → sProp 𝕄) :
    iprop((records v K ∗ levAts L lv)
        ∗ ((each devs fun d => cred (tallyAt (cell c (some (3, d))) () (amt 3))) ∗ each devs fun d => atPos ER (cell c (some (3, d))) 0 ∅ 0)
        ∗ debt c 0)
      ⊢ iprop((iprop(((each devs fun d => atPos ER (cell c (some (3, d))) 1 ∅ 0) ∗ whole c cc0_scratch3 v.o2) ∗ debt c 0) -∗ Q ⟨⟩)
        -∗ run c (forEach devs (wait2 o2M cc0_scratch7)) Q) := by
  have h := run_forEach c iprop(records v K ∗ levAts L lv)
    (fun d => iprop(cred (tallyAt (cell c (some (3, d))) () (amt 3)) ∗ atPos ER (cell c (some (3, d))) 0 ∅ 0))
    (fun d => iprop(atPos ER (cell c (some (3, d))) 1 ∅ 0 ∗ o2Pts c d v.o2)) (fun _ => debt c 0) (wait2 o2M cc0_scratch7)
    (fun d l Q => by
      unfold wait2
      iintro H Hk
      iapply (run_wait v K c 3 d 0 (fun _ _ h => absurd h (Nat.lt_irrefl 0)) (by rfl) Prog.ret Q) $$ H
      iintro H
      rw [run_ret]; imodintro
      iapply Hk; iexact H) devs Q
  rw [each_sep, each_sep, ← o2_rows] at h
  exact h

theorem run_waitSent (Q : PUnit → sProp 𝕄) :
    iprop((records v K ∗ levAts L lv)
        ∗ (((each devs fun d => cred (tallyAt (cell c (some (0, d))) () (amt 0))) ∗ each devs fun d => atPos ER (cell c (some (0, d))) 0 ∅ 0)
          ∗ (each devs fun d => cred (tallyAt (cell c (some (2, d))) () (amt 2))) ∗ each devs fun d => atPos ER (cell c (some (2, d))) 0 ∅ 0)
        ∗ debt c 0)
      ⊢ iprop((iprop((((each devs fun d => atPos ER (cell c (some (0, d))) 1 ∅ 0) ∗ whole c cc0_scratch0 (v.ol c))
            ∗ (each devs fun d => atPos ER (cell c (some (2, d))) 1 ∅ 0) ∗ each devs fun d => osPts c (Transfers.shareTok fullShare 32 d) (v.sl c))
          ∗ debt c 0) -∗ Q ⟨⟩)
        -∗ run c (forEach devs (waitSent olM rsM osM (Memref.isWhole_whole _) o2M cc0_scratch4 cc0_scratch6 c)) Q) := by
  have h := run_forEach c iprop(records v K ∗ levAts L lv)
    (fun d => iprop((cred (tallyAt (cell c (some (0, d))) () (amt 0)) ∗ atPos ER (cell c (some (0, d))) 0 ∅ 0)
      ∗ cred (tallyAt (cell c (some (2, d))) () (amt 2)) ∗ atPos ER (cell c (some (2, d))) 0 ∅ 0))
    (fun d => iprop((atPos ER (cell c (some (0, d))) 1 ∅ 0 ∗ olPts c d (v.ol c))
      ∗ atPos ER (cell c (some (2, d))) 1 ∅ 0 ∗ osPts c (Transfers.shareTok fullShare 32 d) (v.sl c))) (fun _ => debt c 0)
    (waitSent olM rsM osM (Memref.isWhole_whole _) o2M cc0_scratch4 cc0_scratch6 c)
    (fun d l Q => by
      unfold waitSent
      iintro ⟨#HR, ⟨H0, H2⟩, HO⟩ Hk
      iapply (run_wait v K c 0 d 0 (fun _ _ h => absurd h (Nat.lt_irrefl 0)) (by rfl) (fun _ => _) Q) $$ [H0 HO]
      · isplitr; · iexact HR
        isplitl [H0] <;> iassumption
      iintro ⟨H0, HO⟩
      iapply (run_wait v K c 2 d 0 (fun _ _ h => absurd h (Nat.lt_irrefl 0)) (by rfl) Prog.ret Q) $$ [H2 HO]
      · isplitr; · iexact HR
        isplitl [H2] <;> iassumption
      iintro ⟨H2, HO⟩
      rw [run_ret]; imodintro
      iapply Hk
      isplitr [HO]
      · isplitl [H0]
        · iexact H0
        · iexact H2
      iexact HO) devs Q
  simp only [each_sep] at h
  rw [← ol_rows] at h
  exact h

theorem run_send2All (Q : PUnit → sProp 𝕄) :
    iprop(records v K
        ∗ ((each devs fun d => osPts c (Transfers.shareTok fullShare 32 d) (v.sl c)) ∗ (each devs fun d => iprop(∃ f, o2Pts (F := F) d c f))
          ∗ (each devs fun d => dutyTok ER (cell c (some (2, d))) 0 0) ∗ each devs fun d => dutyTok ER (cell d (some (3, c))) 0 0)
        ∗ debt c (owe devs (oweFam 3 c)))
      ⊢ iprop((iprop((each devs fun d => cred (tallyAt (cell c (some (2, d))) () (amt 2))) ∗ debt c 0) -∗ Q ⟨⟩)
        -∗ run c (forEach devs (send2 osM (Memref.isWhole_whole _) o2M cc0_scratch6 cc0_scratch7 c)) Q) := by
  have h := run_forEach c (records v K)
    (fun d => iprop(osPts c (Transfers.shareTok fullShare 32 d) (v.sl c) ∗ (∃ f, o2Pts (F := F) d c f)
      ∗ dutyTok ER (cell c (some (2, d))) 0 0 ∗ dutyTok ER (cell d (some (3, c))) 0 0))
    (fun d => cred (tallyAt (cell c (some (2, d))) () (amt 2))) (fun l => debt c (0 + owe l (oweFam 3 c)))
    (send2 osM (Memref.isWhole_whole _) o2M cc0_scratch6 cc0_scratch7 c) (fun d l Q => run_send2 v K c 0 d l Q) devs Q
  simp only [each_sep, zero_add] at h
  exact h

/-! ## Closing the cells -/

theorem close_list (a : Fin 4) (l : List (Fin 32)) :
    iprop(records v K ∗ each l fun d => atPos ER (cell c (some (a, d))) 1 ∅ 0)
      ⊢ iprop(|={Set.univ}=> each l fun d => semVal (cell c (some (a, d))) 0) := by
  induction l with
  | nil => unfold each; iintro H; imodintro; iempintro
  | cons d l ih =>
    unfold each
    iintro ⟨#HR, Ha, Hs⟩
    imod (Rounds.cell_close ER (sched v) (g := cell c (some (a, d))) (κ := K (c, some (a, d))) (Set.mem_univ _) (fun h => h) (R := 1)
      (duties_later v _)) $$ [Ha] with Hz
    · isplitr; · iapply (records_inv v K c (some (a, d))); iexact HR
      iexact Ha
    imod ih $$ [Hs] with Hzs
    · isplitr; · iexact HR
      iexact Hs
    imodintro
    isplitl [Hz] <;> iassumption

/-- Device `c`'s semaphores at zero. -/
def zeros : sProp 𝕄 :=
  iprop(semVal (cell c none) 0
    ∗ (each devs fun d => semVal (cell c (some (0, d))) 0) ∗ (each devs fun d => semVal (cell c (some (1, d))) 0)
    ∗ (each devs fun d => semVal (cell c (some (2, d))) 0) ∗ each devs fun d => semVal (cell c (some (3, d))) 0)

/-! ## The whole body -/

/-- Device `c`'s input buffers, whole. -/
def inputs (i : Ins F) : sProp 𝕄 :=
  iprop(whole c cc0_stg0_0 i.x ∗ whole c cc0_stg1_0 i.wq ∗ whole c cc0_stg2_0 i.wo ∗ whole c cc0_stg3_0 i.k ∗ whole c cc0_stg4_0 i.v)

/-- Device `c`'s four scratch buffers, whole at some contents. -/
def scratch : sProp 𝕄 :=
  iprop((∃ f, whole (F := F) c cc0_scratch0 f) ∗ (∃ f, whole (F := F) c cc0_scratch1 f) ∗ (∃ f, whole (F := F) c cc0_scratch2 f)
    ∗ ∃ f, whole (F := F) c cc0_scratch3 f)

omit [FloatOps F] in
theorem ol_halves : iprop(∃ f, whole (F := F) c cc0_scratch0 f) ⊢ iprop((∃ f, halfPts (F := F) c 0 f) ∗ ∃ f, halfPts (F := F) c 1 f) := by
  iintro ⟨%f, H⟩
  ihave H2 := (Entails.of_eq ((ol_rows c f).trans ((each_halves _).trans (congrArg₂ (fun P Q : sProp 𝕄 => iprop(P ∗ Q)) (half_rows c 0 f).symm (half_rows c 1 f).symm)))) $$ H
  icases H2 with ⟨H0, H1⟩
  isplitl [H0]
  · iexists f; iexact H0
  · iexists f; iexact H1

theorem O₁_eq : O₁ c = owe devs (oweFam 3 c) + owe (devsOf 1) (oweFam 1 c) + owe (devsOf 0) (oweFam 1 c) := by
  unfold O₁
  rw [congrArg (fun l => owe l (oweFam 1 c)) devs_append, owe_append, add_assoc]

omit [FloatOps F] in
theorem payToks_each : payToks (F := F) c = iprop((each devs fun d : Fin 32 => dutyTok ER (cell d none) 0 c)
    ∗ (each devs fun d : Fin 32 => dutyTok ER (cell c (some (0, d))) 0 0) ∗ (each devs fun d : Fin 32 => dutyTok ER (cell d (some (1, c))) 0 0)
    ∗ (each devs fun d : Fin 32 => dutyTok ER (cell c (some (2, d))) 0 0) ∗ each devs fun d : Fin 32 => dutyTok ER (cell d (some (3, c))) 0 0) := by
  unfold payToks; simp only [each_devs]
omit [FloatOps F] in
theorem positions_each : positions (F := F) c = iprop(atPos ER (cell c none) 0 ∅ 0
    ∗ (each devs fun d : Fin 32 => atPos ER (cell c (some (0, d))) 0 ∅ 0) ∗ (each devs fun d : Fin 32 => atPos ER (cell c (some (1, d))) 0 ∅ 0)
    ∗ (each devs fun d : Fin 32 => atPos ER (cell c (some (2, d))) 0 ∅ 0) ∗ each devs fun d : Fin 32 => atPos ER (cell c (some (3, d))) 0 ∅ 0) := by
  unfold positions; simp only [each_devs]
omit [FloatOps F] in
theorem credits_each : credits (F := F) c = iprop(cred (tallyAt (cell c none) () 32)
    ∗ (each devs fun d : Fin 32 => cred (tallyAt (cell c (some (1, d))) () (amt 1))) ∗ each devs fun d : Fin 32 => cred (tallyAt (cell c (some (3, d))) () (amt 3))) := by
  unfold credits; simp only [each_devs]

omit [FloatOps F] in
theorem bar_each : (bigSep Finset.univ fun j => barPay (F := F) c j)
    = iprop((each devs fun d => iprop(∃ f, rsPts (F := F) d c f)) ∗ each devs fun d => iprop(∃ f, o2Pts (F := F) d c f)) := by
  rw [← each_devs, ← each_sep]; rfl

/-- What the first exchange's sends use besides the blocks, batch by batch. -/
theorem sends_halves : iprop((each devs fun d => iprop(∃ f, rsPts (F := F) d c f)) ∗ (each devs fun d => dutyTok ER (cell c (some (0, d))) 0 0)
      ∗ each devs fun d => dutyTok ER (cell d (some (1, c))) 0 0)
    = iprop(each (devsOf 0) (sendRight (F := F) c) ∗ each (devsOf 1) (sendRight (F := F) c)) := by
  rw [← each_halves, ← each_sep, ← each_sep]; rfl

/-- An update after a program is the program's own. -/
theorem run_fupd (p : Core F PUnit) (Q : PUnit → sProp 𝕄) : run c p (fun a => iprop(|={Set.univ}=> Q a)) ⊢ run c p Q := wp_fupd frame _ Set.univ p Q

/-- The body of device `c`: from the launch's ghost state and its buffers to its result, its cells closed. -/
theorem run_body (Q : PUnit → sProp 𝕄) :
    iprop(start (vals ins) c ∗ debt c (O₀ c) ∗ inputs c (ins c) ∗ (∃ f, whole (F := F) c cc0_stg5_0 f) ∗ scratch c)
      ⊢ iprop((iprop(zeros c ∗ debt c 0 ∗ inputs c (ins c) ∗ whole c cc0_stg5_0 (outOf (vals ins).o2) ∗ scratch c) -∗ Q ⟨⟩)
        -∗ run c (body xM wqM woM kM vM outM olM rsM osM (Memref.isWhole_whole _) o2M cc0_scratch4 cc0_scratch5 cc0_scratch6 cc0_scratch7) Q) := by
  unfold body start inputs scratch zeros
  rw [show ∀ k : Dev nD → Core F PUnit, run c (Prog.op .deviceId k) Q = run c (k c) Q from fun k => wp_deviceId ..]
  simp only [run_bind]
  rw [payToks_each, positions_each, credits_each]
  iintro ⟨⟨⟨%K, #HR, ⟨Hpb, Hp0, Hp1, Hp2, Hp3⟩, Htb, Ht0, Ht1, Ht2, Ht3⟩, ⟨Hcb, Hc1, Hc3⟩, #Hlev⟩, HO, ⟨Hx, Hq, Hw, Hkk, Hv⟩, Hout, Hol, Hrs, Hos, Ho2⟩ Hk
  -- the entry
  iapply (run_signalAll c (vals ins) K) $$ [Htb Hrs Ho2 HO]
  · isplitr; · iexact HR
    isplitl [Htb]; · iexact Htb
    isplitl [Hrs]; · iexact Hrs
    isplitl [Ho2] <;> iassumption
  iintro HO
  iapply (run_barrier (vals ins) K c) $$ [Hcb Hpb HO]
  · isplitr
    · isplitr; · iexact HR
      iexact Hlev
    isplitl [Hcb Hpb]
    · isplitl [Hcb] <;> iassumption
    iexact HO
  iintro ⟨⟨Hpb, Hbar⟩, HO⟩
  ihave Hbar' := (Entails.of_eq (bar_each c)) $$ Hbar
  icases Hbar' with ⟨Hrs, Ho2⟩
  -- the batches
  ihave Hsr := (Entails.of_eq (sends_halves c)) $$ [Hrs Ht0 Ht1]
  · isplitl [Hrs]; · iexact Hrs
    isplitl [Ht0] <;> iassumption
  icases Hsr with ⟨Hs0, Hs1⟩
  ihave Hh := (ol_halves c) $$ Hol
  icases Hh with ⟨Hh0, Hh1⟩
  ihave HO := (Entails.of_eq (congrArg (debt (F := F) c) (O₁_eq c))) $$ HO
  iapply (Entails.of_eq (forEach2 c (batchStep xM wqM kM vM olM rsM cc0_scratch4 cc0_scratch5 c) _).symm)
  iapply (run_batchStep c K ins 0 (owe devs (oweFam 3 c) + owe (devsOf 1) (oweFam 1 c))) $$ [Hx Hq Hkk Hv Hh0 Hs0 HO]
  · isplitr; · iexact HR
    isplitl [Hx Hq Hkk Hv]
    · isplitl [Hx]; · iexact Hx
      isplitl [Hq]; · iexact Hq
      isplitl [Hkk] <;> iassumption
    isplitl [Hh0]; · iexact Hh0
    isplitl [Hs0] <;> iassumption
  iintro ⟨⟨Hx, Hq, Hkk, Hv⟩, Hc0, HO⟩
  iapply (run_batchStep c K ins 1 (owe devs (oweFam 3 c))) $$ [Hx Hq Hkk Hv Hh1 Hs1 HO]
  · isplitr; · iexact HR
    isplitl [Hx Hq Hkk Hv]
    · isplitl [Hx]; · iexact Hx
      isplitl [Hq]; · iexact Hq
      isplitl [Hkk] <;> iassumption
    isplitl [Hh1]; · iexact Hh1
    isplitl [Hs1] <;> iassumption
  iintro ⟨⟨Hx, Hq, Hkk, Hv⟩, Hc0', HO⟩
  rw [run_ret]
  imodintro
  -- the first exchange's rows
  iapply (run_wait1 c (vals ins) K) $$ [Hc1 Hp1 HO]
  · isplitr
    · isplitr; · iexact HR
      iexact Hlev
    isplitl [Hc1 Hp1]
    · isplitl [Hc1] <;> iassumption
    iexact HO
  iintro ⟨⟨Hp1, Hrs⟩, HO⟩
  iapply (run_sumRows c ((vals ins).rs c)) $$ Hrs; iintro Hrs
  iapply (run_storeSlab c (ins c).wo (accOf ((vals ins).rs c))) $$ [Hw Hos]
  · isplitl [Hw] <;> iassumption
  iintro ⟨Hw, Hos⟩
  -- the second exchange
  ihave Hos' := (show whole c cc0_scratch2 (slab (accOf ((vals ins).rs c)) (ins c).wo) ⊢ _ from os_split c ((vals ins).sl c)) $$ Hos
  icases Hos' with ⟨Hosr, Hoss⟩
  iapply (run_send2All c (vals ins) K) $$ [Hoss Ho2 Ht2 Ht3 HO]
  · isplitr; · iexact HR
    isplitr [HO]
    · isplitl [Hoss]; · iexact Hoss
      isplitl [Ho2]; · iexact Ho2
      isplitl [Ht2] <;> iassumption
    iexact HO
  iintro ⟨Hc2, HO⟩
  iapply (run_wait2 c (vals ins) K) $$ [Hc3 Hp3 HO]
  · isplitr
    · isplitr; · iexact HR
      iexact Hlev
    isplitl [Hc3 Hp3]
    · isplitl [Hc3] <;> iassumption
    iexact HO
  iintro ⟨⟨Hp3, Ho2⟩, HO⟩
  -- the result
  iapply (Entails.of_eq (forEach2 c (copyOut o2M outM) _).symm)
  icases Hout with ⟨%g, Hout⟩
  iapply (run_copyOut c (vals ins).o2 0) $$ [Ho2 Hout]
  · isplitl [Ho2]; · iexact Ho2
    iexists g
    isplitr
    · ipureintro; exact fun t ht => absurd ht (Nat.not_lt_zero _)
    iexact Hout
  iintro ⟨Ho2, Hout⟩
  iapply (run_copyOut c (vals ins).o2 1) $$ [Ho2 Hout]
  · isplitl [Ho2]; · iexact Ho2
    iexact Hout
  iintro ⟨Ho2, ⟨%g', %hg, Hout⟩⟩
  rw [run_ret]
  imodintro
  -- the sends' own waits
  iapply (run_fupd c (forEach devs (waitSent olM rsM osM (Memref.isWhole_whole _) o2M cc0_scratch4 cc0_scratch6 c)) Q)
  iapply (run_waitSent c (vals ins) K) $$ [Hc0 Hc0' Hp0 Hc2 Hp2 HO]
  · isplitr
    · isplitr; · iexact HR
      iexact Hlev
    isplitr [HO]
    · isplitl [Hc0 Hc0' Hp0]
      · isplitr [Hp0]
        · iapply (Entails.of_eq (each_halves (F := F) fun d => cred (tallyAt (cell c (some (0, d))) () (amt 0))).symm)
          isplitl [Hc0] <;> iassumption
        · iexact Hp0
      · isplitl [Hc2] <;> iassumption
    iexact HO
  iintro ⟨⟨⟨Hp0, Hol⟩, Hp2, Hoss⟩, HO⟩
  ihave Hos := (os_join c ((vals ins).sl c)) $$ [Hosr Hoss]
  · isplitl [Hosr] <;> iassumption
  -- closing the cells
  imod (Rounds.cell_close ER (sched (vals ins)) (g := cell c none) (κ := K (c, none)) (Set.mem_univ _) (fun h => h) (R := 1)
    (duties_later (vals ins) _)) $$ [Hpb] with Hzb
  · isplitr; · iapply (records_inv (vals ins) K c none); iexact HR
    iexact Hpb
  imod (close_list c (vals ins) K 0 devs) $$ [Hp0] with Hz0
  · isplitr; · iexact HR
    iexact Hp0
  imod (close_list c (vals ins) K 1 devs) $$ [Hp1] with Hz1
  · isplitr; · iexact HR
    iexact Hp1
  imod (close_list c (vals ins) K 2 devs) $$ [Hp2] with Hz2
  · isplitr; · iexact HR
    iexact Hp2
  imod (close_list c (vals ins) K 3 devs) $$ [Hp3] with Hz3
  · isplitr; · iexact HR
    iexact Hp3
  imodintro
  have hout : g' = outOf (vals ins).o2 := funext fun t => hg t (t 0).isLt
  rw [hout]
  iapply Hk
  isplitl [Hzb Hz0 Hz1 Hz2 Hz3]
  · isplitl [Hzb]; · iexact Hzb
    isplitl [Hz0]; · iexact Hz0
    isplitl [Hz1]; · iexact Hz1
    isplitl [Hz2] <;> iassumption
  isplitl [HO]; · iexact HO
  isplitl [Hx Hq Hw Hkk Hv]
  · isplitl [Hx]; · iexact Hx
    isplitl [Hq]; · iexact Hq
    isplitl [Hw]; · iexact Hw
    isplitl [Hkk] <;> iassumption
  isplitl [Hout]; · iexact Hout
  isplitl [Hol]; · iexists _; iexact Hol
  isplitl [Hrs]; · iexists _; iexact Hrs
  isplitl [Hos]; · iexists _; iexact Hos
  iexists _; iexact Ho2

end Cert.KernelIdeal.Loop

end
-- ==== Proof.LaunchIdeal.lean ====
/- The launch: the ghost state is made and dealt to the devices, each device's body runs, and the whole
   program's run follows. The result array of every device ends at the computed contents. -/
module

public import proofs.«01_k».proof.Proof.BodyIdeal
public import proofs.«01_k».proof.Proof.Gen.KernelIdeal.Points
public import proofs.«01_k».proof.Proof.Gen.KernelIdeal.Frame
public import Idealize.ShloMosaic.Init
public import Idealize.ShloMosaic.Lib.Pipeline.CollectiveSegs

@[expose] public section

set_option synthInstance.maxSize 4096

noncomputable section

namespace Cert.KernelIdeal.Loop

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launched state: memory `m`, every counter zero. -/
def st₀ : MemSt nD τ sig (Elt F) := ⟨m, fun _ => 0, ρ⟩

/-- What device `c`'s input buffers hold: its argument arrays. -/
def insOf (c : Dev nD) : Ins F where
  x := (win0_0.blk (0 : Fin 1)).view.read (Elt F) ((st₀ m ρ).mem ((c : Thread nD τ).loc main_arg0))
  wq := (win0_1.blk (0 : Fin 1)).view.read (Elt F) ((st₀ m ρ).mem ((c : Thread nD τ).loc main_arg1))
  wo := (win0_2.blk (0 : Fin 1)).view.read (Elt F) ((st₀ m ρ).mem ((c : Thread nD τ).loc main_arg4))
  k := (win0_3.blk (0 : Fin 1)).view.read (Elt F) ((st₀ m ρ).mem ((c : Thread nD τ).loc main_arg2))
  v := (win0_4.blk (0 : Fin 1)).view.read (Elt F) ((st₀ m ρ).mem ((c : Thread nD τ).loc main_arg3))

/-- What the buffers hold when they are sent. -/
abbrev Vv : Vals F := vals (insOf m ρ)

/-- What every device's result buffer ends with. -/
abbrev result : FVec F S2x128x512 .f32 := outOf (Vv m ρ).o2

theorem cfg0_N : cfg0.N = 1 := by decide
abbrev t₀ : Fin cfg0.N := ⟨0, by rw [cfg0_N]; decide⟩
theorem fin_N (t : Fin cfg0.N) : t = t₀ := by
  obtain ⟨t, ht⟩ := t; have := cfg0_N; exact Fin.ext (by simp only [t₀]; omega)

/-- Before the one point: the ghost state and the scratch buffers. -/
def Φ₀ (c : Dev nD) : sProp 𝕄 := iprop(start (Vv m ρ) c ∗ scratch c)
/-- After it: the scratch buffers, and every semaphore at zero. -/
def Φ₁ (c : Dev nD) : sProp 𝕄 := iprop(scratch c ∗ zeros c)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => (insOf m ρ c).x
    | ⟨1, _⟩ => (insOf m ρ c).wq
    | ⟨2, _⟩ => (insOf m ρ c).wo
    | ⟨3, _⟩ => (insOf m ρ c).k
    | ⟨4, _⟩ => (insOf m ρ c).v
    | ⟨5, _⟩ => result m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

/-- A staging buffer of device `c` at contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ
    ∗ stg c cc0_stg0_0 (insOf m ρ c).x ∗ stg c cc0_stg1_0 (insOf m ρ c).wq ∗ stg c cc0_stg2_0 (insOf m ρ c).wo
    ∗ stg c cc0_stg3_0 (insOf m ρ c).k ∗ stg c cc0_stg4_0 (insOf m ρ c).v ∗ stg c cc0_stg5_0 (result m ρ))

theorem before_0 (c : Dev nD) (d) : (dats m ρ 0 c).before (0 : Fin 6) t₀ d = (insOf m ρ c).x := by
  unfold Dat.before; rw [if_pos (fetch0_0 t₀)]; rfl
theorem before_1 (c : Dev nD) (d) : (dats m ρ 0 c).before (1 : Fin 6) t₀ d = (insOf m ρ c).wq := by
  unfold Dat.before; rw [if_pos (fetch0_1 t₀)]; rfl
theorem before_2 (c : Dev nD) (d) : (dats m ρ 0 c).before (2 : Fin 6) t₀ d = (insOf m ρ c).wo := by
  unfold Dat.before; rw [if_pos (fetch0_2 t₀)]; rfl
theorem before_3 (c : Dev nD) (d) : (dats m ρ 0 c).before (3 : Fin 6) t₀ d = (insOf m ρ c).k := by
  unfold Dat.before; rw [if_pos (fetch0_3 t₀)]; rfl
theorem before_4 (c : Dev nD) (d) : (dats m ρ 0 c).before (4 : Fin 6) t₀ d = (insOf m ρ c).v := by
  unfold Dat.before; rw [if_pos (fetch0_4 t₀)]; rfl

theorem sound_body (c : Dev nD) :
    bodyPre m ρ c ⊢ run c (body xM wqM woM kM vM outM olM rsM osM (Memref.isWhole_whole _) o2M cc0_scratch4 cc0_scratch5 cc0_scratch6 cc0_scratch7)
      (fun _ => bodyPost m ρ c) := by
  unfold bodyPre Φ₀ stg Dat.owesAt Pipeline.owesWithin
  rw [show (dats m ρ 0 c).owed t₀.castSucc = O₀ c from rfl]
  iintro ⟨⟨Hst, Hscr⟩, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩,
    ⟨%d5, %f5, %h5, H5⟩⟩
  rw [before_0] at h0; rw [before_1] at h1; rw [before_2] at h2; rw [before_3] at h3; rw [before_4] at h4
  subst h0 h1 h2 h3 h4
  iapply (run_body c (insOf m ρ)) $$ [Hst Hscr HO H0 H1 H2 H3 H4 H5]
  · isplitl [Hst]; · iexact Hst
    isplitl [HO]; · unfold debt; iexists W; iexact HO
    isplitl [H0 H1 H2 H3 H4]
    · unfold inputs
      isplitl [H0]; · iexact H0
      isplitl [H1]; · iexact H1
      isplitl [H2]; · iexact H2
      isplitl [H3] <;> iassumption
    isplitl [H5]; · iexists f5; iexact H5
    iexact Hscr
  unfold debt inputs bodyPost Φ₁ stg Dat.owesAt Pipeline.owesWithin
  rw [show (dats m ρ 0 c).owed t₀.succ = 0 from rfl]
  iintro ⟨Hz, ⟨%W', HO⟩, ⟨H0, H1, H2, H3, H4⟩, H5, Hscr⟩
  isplitl [Hz Hscr]
  · isplitl [Hscr] <;> iassumption
  isplitl [HO]
  · iexists W'
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option maxRecDepth 100000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ run c
    (cc0_body xM (Memref.isWhole_whole _) wqM (Memref.isWhole_whole _) woM (Memref.isWhole_whole _) kM (Memref.isWhole_whole _) vM (Memref.isWhole_whole _)
      outM (Memref.isWhole_whole _) olM (Memref.isWhole_whole _) rsM (Memref.isWhole_whole _) osM (Memref.isWhole_whole _) o2M (Memref.isWhole_whole _)
      cc0_scratch4 cc0_scratch5 cc0_scratch6 cc0_scratch7) (fun _ => bodyPost m ρ c)
  rw [body_eq]
  exact sound_body m ρ c

/-! ## The ghost state made and dealt -/

/-- The semaphores of the kernel's own. -/
abbrev osem : Fin 4 × Fin 32 → SemLoc sig := fun p => csem (some p)

theorem stage_val (w : Fin cfg0.W) (s : Fin (cfg0.win w).nbuf) : ((cfg0.win w).sem s).val < 6 := by
  revert s; revert w; decide

theorem ownSemFacts : Pipeline.OwnSemFacts cfg0.spec osem where
  isScoped := by decide +kernel
  inj p p' h := Option.some.inj (csem_injective h)
  disj p w s h := by
    have h1 := fam_val p.1 p.2
    have h2 : (semAt (fam p.1) p.2).sem = (cfg0.win w).sem s := SemLoc.dma.inj h
    have h3 := stage_val w s
    rw [h2] at h1
    omega

theorem share_eq (c : Dev nD) (w : Fin cfg0.W) : (dats m ρ 0 c).share w = fullShare := by unfold Dat.share; split <;> rfl

def kcell (ck : Dev nD × Kind) : GSem nD τ sig := cell ck.1 ck.2
theorem kcell_injective : Function.Injective kcell := fun a b h => Prod.ext (cell_inj h).1 (cell_inj h).2
def cellsOf : Finset (GSem nD τ sig) := Finset.univ.map ⟨kcell, kcell_injective⟩

/-- The duty tokens: a barrier cell's 32, and one of each other cell. -/
def tokOf (ct : Dev nD × (Fin 32 ⊕ Fin 4 × Fin 32)) : GSem nD τ sig × ℕ × Fin 32 := match ct.2 with
  | .inl j => (cell ct.1 none, 0, j)
  | .inr p => (cell ct.1 (some p), 0, 0)
theorem tokOf_injective : Function.Injective tokOf := by
  rintro ⟨c, t⟩ ⟨c', t'⟩ h
  rcases t with j | p <;> rcases t' with j' | p'
  · have h1 := cell_inj (congrArg Prod.fst h)
    have h2 : j = j' := congrArg (fun x => x.2.2) h
    rw [show c = c' from h1.1, h2]
  · exact absurd (cell_inj (congrArg Prod.fst h)).2 (fun h' => by cases h')
  · exact absurd (cell_inj (congrArg Prod.fst h)).2 (fun h' => by cases h')
  · have h1 := cell_inj (congrArg Prod.fst h)
    rw [show c = c' from h1.1, show p = p' from Option.some.inj h1.2]
def toksOf : Finset (GSem nD τ sig × ℕ × Fin 32) := Finset.univ.map ⟨tokOf, tokOf_injective⟩

def u₀ : UU := (initOf (Pipeline.cells cfgs cellOf_inj) (Pipeline.launchToks cfgs cellOf_inj), initOf cellsOf toksOf)

/-- The duty tokens of device `c`'s own cells. -/
def toks (c : Dev nD) : sProp 𝕄 :=
  iprop((bigSep Finset.univ fun j : Fin 32 => dutyTok ER (cell c none) 0 j) ∗ bigSep Finset.univ fun p : Fin 4 × Fin 32 => dutyTok ER (cell c (some p)) 0 0)

/-- What the launch deals device `c`. -/
def G (c : Dev nD) : sProp 𝕄 :=
  iprop((bigSep Finset.univ fun k : Kind => roundState ER (sched (Vv m ρ)) (cell c k) 0)
    ∗ (bigSep Finset.univ fun k : Kind => iprop(atPos ER (cell c k) 0 ∅ 0 ∗ reached ER (cell c k) 0)) ∗ toks c)

/-- What is made of it. -/
def G' (c : Dev nD) : sProp 𝕄 := iprop(∃ K, records (Vv m ρ) K ∗ positions c ∗ payToks c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem bigSep_kind (Φ : Kind → sProp 𝕄) : bigSep Finset.univ Φ = iprop(Φ none ∗ bigSep Finset.univ fun p : Fin 4 × Fin 32 => Φ (some p)) := by
  rw [bigSep_univ_at Φ none]
  have h : (Finset.univ : Finset Kind).erase none = (Finset.univ : Finset (Fin 4 × Fin 32)).map ⟨some, Option.some_injective _⟩ := by
    ext k
    rcases k with _ | p
    · constructor
      · intro hk; exact absurd rfl (Finset.mem_erase.mp hk).1
      · intro hk; obtain ⟨p, -, hp⟩ := Finset.mem_map.mp hk; cases hp
    · exact ⟨fun _ => Finset.mem_map.mpr ⟨p, Finset.mem_univ _, rfl⟩, fun _ => Finset.mem_erase.mpr ⟨by simp, Finset.mem_univ _⟩⟩
  rw [h, bigSep_map]
  rfl

omit [FloatOps F] in
/-- The four families. -/
theorem bigSep_fams (Φ : Fin 4 × Fin 32 → sProp 𝕄) : bigSep Finset.univ Φ
    = iprop((bigSep Finset.univ fun d => Φ (0, d)) ∗ (bigSep Finset.univ fun d => Φ (1, d)) ∗ (bigSep Finset.univ fun d => Φ (2, d)) ∗ bigSep Finset.univ fun d => Φ (3, d)) := by
  rw [bigSep_univ_prod, bigSep_fin4]

theorem fund_cells : BI.own (ER (initOf cellsOf toksOf)) ⊢ (|==> bigSep Finset.univ (G m ρ) : sProp 𝕄) := by
  have hX (Φ : GSem nD τ sig → sProp 𝕄) : bigSep cellsOf Φ = bigSep Finset.univ fun c : Dev nD => bigSep Finset.univ fun k : Kind => Φ (cell c k) := by
    unfold cellsOf; rw [bigSep_map, bigSep_univ_prod]; rfl
  have hT : bigSep toksOf (fun x => (dutyTok ER x.1 x.2.1 x.2.2 : sProp 𝕄)) = bigSep Finset.univ fun c : Dev nD => toks c := by
    unfold toksOf; rw [bigSep_map, bigSep_univ_prod]
    exact bigSep_congr fun c _ => by rw [bigSep_univ_sum]; rfl
  iintro HX
  imod (Rounds.fund ER (sched (Vv m ρ)) cellsOf toksOf) $$ HX with ⟨Hst, Hr, Hat, Htok⟩
  imodintro
  ihave Hst' := (Entails.of_eq (hX fun g => roundState ER (sched (Vv m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (cell c none) 0 := by
  unfold unscopedSems0; rw [bigSep_eq_bigSepL_of_eq [SemLoc.reg bar] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kind => semVal (cell c k) 0 : sProp 𝕄) := by
  rw [unscopedSems0_eq, bigSep_kind]
  unfold Pipeline.ownSems0
  iintro ⟨HF, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Kind => iprop(∃ κ : ℕ, cellInv ER (sched (Vv m ρ)) κ (cell c k)))
          ∗ (bigSep Finset.univ fun k : Kind => iprop(atPos ER (cell c k) 0 ∅ 0 ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kind => semVal (cell c k) 0) ∗ bigSep Finset.univ fun k : Kind => roundState ER (sched (Vv m ρ)) (cell c k) 0)
      ⊢ (|={Set.univ}=> bigSep Finset.univ fun k : Kind => iprop(∃ κ : ℕ, cellInv ER (sched (Vv m ρ)) κ (cell c k)) : sProp 𝕄) from by
        rw [← bigSep_sep']
        exact (bigSep_mono fun k _ => (Rounds.body_intro ER (sched (Vv m ρ)) (cell c k)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The order of a double iteration turned. -/
theorem bigSep_turn (Φ : Fin 32 → Fin 32 → sProp 𝕄) : (bigSep Finset.univ fun c => bigSep Finset.univ fun d => Φ c d) = bigSep Finset.univ fun d => bigSep Finset.univ fun c => Φ c d := by
  rw [← bigSep_univ_prod (fun p : Fin 32 × Fin 32 => Φ p.1 p.2), ← bigSep_univ_prod (fun p : Fin 32 × Fin 32 => Φ p.2 p.1)]
  exact bigSep_univ_equiv (Equiv.prodComm (Fin 32) (Fin 32)) _

omit [FloatOps F] in
/-- The tokens dealt to the devices that pay: a cell another device fills goes to that device. -/
theorem toks_around : (bigSep Finset.univ fun c : Dev nD => (toks c : sProp 𝕄)) ⊢ bigSep Finset.univ fun c : Dev nD => payToks c := by
  unfold toks payToks
  simp only [bigSep_fams, bigSep_sep']
  iintro ⟨H, H0, H1, H2, H3⟩
  isplitl [H]
  · iapply (Entails.of_eq (bigSep_turn fun (c : Dev nD) (d : Fin 32) => (dutyTok ER (cell c none) 0 d : sProp 𝕄))); iexact H
  isplitl [H0]; · iexact H0
  isplitl [H1]
  · iapply (Entails.of_eq (bigSep_turn fun (c : Dev nD) (d : Fin 32) => (dutyTok ER (cell c (some (1, d))) 0 0 : sProp 𝕄))); iexact H1
  isplitl [H2]; · iexact H2
  iapply (Entails.of_eq (bigSep_turn fun (c : Dev nD) (d : Fin 32) => (dutyTok ER (cell c (some (3, d))) 0 0 : sProp 𝕄))); iexact H3

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal :
    (bigSep Finset.univ fun c : Dev nD => iprop((bigSep Finset.univ fun k : Kind => iprop(∃ κ : ℕ, cellInv ER (sched (Vv m ρ)) κ (cell c k)))
          ∗ (bigSep Finset.univ fun k : Kind => iprop(atPos ER (cell c k) 0 ∅ 0 ∗ reached ER (cell c k) 0)) ∗ toks c) : sProp 𝕄)
      ⊢ bigSep Finset.univ (G' m ρ) := by
  rw [bigSep_sep', bigSep_sep', ← bigSep_univ_prod (fun ck : Dev nD × Kind => iprop(∃ κ : ℕ, cellInv ER (sched (Vv m ρ)) κ (cell ck.1 ck.2))),
    bigSep_congr (s := Finset.univ) (fun (c : Dev nD) _ => bigSep_sep' Finset.univ (fun k : Kind => (atPos ER (cell c k) 0 ∅ 0 : sProp 𝕄)) (fun k => reached ER (cell c k) 0)),
    bigSep_sep', ← bigSep_univ_prod (fun ck : Dev nD × Kind => (reached ER (cell ck.1 ck.2) 0 : sProp 𝕄))]
  iintro ⟨HI, ⟨Hat, #HR⟩, Htok⟩
  ihave HK := (BI.bigSep_exists_pi Finset.univ (fun (ck : Dev nD × Kind) (κ : ℕ) => (cellInv ER (sched (Vv m ρ)) κ (cell ck.1 ck.2) : sProp 𝕄))) $$ HI
  icases HK with ⟨%K, #HI⟩
  ihave Htk := (toks_around (F := F)) $$ Htok
  iapply (with_persistent (R := records (Vv m ρ) K) (Φ := fun c => iprop(positions c ∗ payToks c)) fun c _ => show _ ⊢ G' m ρ c from by
    unfold G'; iintro H; iexists K; iexact H)
  isplitr
  · unfold records; isplitl; · iexact HI
    iexact HR
  · iapply ((Entails.of_eq (bigSep_sep' Finset.univ (fun c : Dev nD => bigSep Finset.univ fun k : Kind => (atPos ER (cell c k) 0 ∅ 0 : sProp 𝕄)) payToks).symm).trans
      (bigSep_mono fun c _ => show _ ⊢ iprop(positions c ∗ payToks c) from Entails.of_eq (by unfold positions; rw [bigSep_kind, bigSep_fams])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (deal m ρ))

/-! ## The launch credit -/

theorem owe_sum (l : List (Fin 32)) (hl : l.Nodup) (t : Fin 32 → CellTallies nD τ sig Unit) (g : GSem nD τ sig) :
    owe l t g () = ∑ d ∈ l.toFinset, t d g () := by
  induction l with
  | nil => rfl
  | cons d l ih =>
    have hd := List.nodup_cons.mp hl
    rw [List.toFinset_cons, Finset.sum_insert (by rw [List.mem_toFinset]; exact hd.1), ← ih hd.2, Nat.add_comm]
    rfl

theorem owed_bar (c : Dev nD) (k : Kind) : owe devs oweBar (cell c k) () = if k = none then 1 else 0 := by
  rw [owe_sum devs devs_nodup, devs_toFinset]
  have h (d : Fin 32) : oweBar d (cell c k) () = if d = c then (if k = none then 1 else 0) else 0 := by
    unfold oweBar
    rw [tallyAt_apply]
    by_cases hd : d = c
    · by_cases hk : k = none
      · rw [hd, hk, if_pos ⟨rfl, rfl⟩, if_pos rfl, if_pos rfl]
      · rw [if_neg (fun h => hk (cell_inj h.1).2), if_pos hd, if_neg hk]
    · rw [if_neg (fun h => hd (cell_inj h.1).1.symm), if_neg hd]
  rw [Finset.sum_congr rfl fun d _ => h d, Finset.sum_ite_eq' Finset.univ c, if_pos (Finset.mem_univ _)]

theorem owed_fam (a : Fin 4) (s : Dev nD) (c : Dev nD) (k : Kind) : owe devs (oweFam a s) (cell c k) () = if k = some (a, s) then amt a else 0 := by
  rw [owe_sum devs devs_nodup, devs_toFinset]
  have h (d : Fin 32) : oweFam a s d (cell c k) () = if d = c then (if k = some (a, s) then amt a else 0) else 0 := by
    unfold oweFam
    rw [tallyAt_apply]
    by_cases hd : d = c
    · by_cases hk : k = some (a, s)
      · rw [hd, hk, if_pos ⟨rfl, rfl⟩, if_pos rfl, if_pos rfl]
      · rw [if_neg (fun h => hk (cell_inj h.1).2), if_pos hd, if_neg hk]
    · rw [if_neg (fun h => hd (cell_inj h.1).1.symm), if_neg hd]
  rw [Finset.sum_congr rfl fun d _ => h d, Finset.sum_ite_eq' Finset.univ c, if_pos (Finset.mem_univ _)]

/-- What device `s` owes a cell of `c`. -/
theorem owed_at (s c : Dev nD) (k : Kind) :
    O₀ s (cell c k) () = (if k = some (3, s) then amt 3 else 0) + (if k = some (1, s) then amt 1 else 0) + if k = none then 1 else 0 := by
  rw [← owed_fam 3 s c k, ← owed_fam 1 s c k, ← owed_bar c k]; rfl

theorem launch_bar (c : Dev nD) :
    tallyOn (cell c none) (launchCredit (Pipeline.owing O₀) 0 (cell c none)) = (tallyAt (cell c none) () 32 : CellTallies nD τ sig Unit) := by
  unfold tallyAt; refine congrArg _ (Finsupp.ext fun u => ?_); cases u
  rw [Pipeline.launchCredit_owing, Finsupp.single_eq_same, Finset.sum_congr rfl fun s _ => owed_at s c none]
  simp

theorem launch_fam (a : Fin 4) (ha : a = 1 ∨ a = 3) (c : Dev nD) (d : Fin 32) :
    tallyOn (cell c (some (a, d))) (launchCredit (Pipeline.owing O₀) 0 (cell c (some (a, d)))) = (tallyAt (cell c (some (a, d))) () (amt a) : CellTallies nD τ sig Unit) := by
  unfold tallyAt; refine congrArg _ (Finsupp.ext fun u => ?_); cases u
  rw [Pipeline.launchCredit_owing, Finsupp.single_eq_same, Finset.sum_congr rfl fun s _ => owed_at s c _]
  rw [Finset.sum_congr rfl fun (s : Dev nD) _ => show _ = if s = d then amt a else 0 from by
    rcases ha with rfl | rfl <;> by_cases h : s = d <;> [simp [h]; simp [h, show ¬d = s from fun e => h e.symm]; simp [h]; simp [h, show ¬d = s from fun e => h e.symm]]]
  rw [Finset.sum_ite_eq' Finset.univ d, if_pos (Finset.mem_univ _)]

omit [FloatOps F] in
theorem creds (c : Dev nD) : (Pipeline.launchCred O₀ c : sProp 𝕄) ⊢ credits c := by
  unfold Pipeline.launchCred credits
  refine (bigSep_subset (Finset.subset_univ ((Finset.univ : Finset Kind).map ⟨csem, csem_injective⟩))).trans ?_
  rw [bigSep_map, bigSep_kind, bigSep_fams, ← launch_bar c]
  simp only [← launch_fam 1 (Or.inl rfl) c, ← launch_fam 3 (Or.inr rfl) c]
  show iprop(cred (tallyOn (cell c none) (launchCredit (Pipeline.owing O₀) 0 (cell c none))) ∗ _ ∗
    (bigSep Finset.univ fun d : Fin 32 => cred (tallyOn (cell c (some (1, d))) (launchCredit (Pipeline.owing O₀) 0 (cell c (some (1, d)))))) ∗ _ ∗
    (bigSep Finset.univ fun d : Fin 32 => cred (tallyOn (cell c (some (3, d))) (launchCredit (Pipeline.owing O₀) 0 (cell c (some (3, d))))))) ⊢ _
  iintro ⟨H, -, H1, -, H3⟩
  isplitl [H]; · iexact H
  isplitl [H1] <;> iassumption

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start (Vv m ρ) c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start (Vv m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

omit [FloatOps F] in
theorem zeros_sems (c : Dev nD) :
    (zeros c : sProp 𝕄) ⊢ iprop(unscopedSems0 c ∗ Pipeline.ownSems0 (Ix := Unit) (Name := ℕ) (U := UU) (Lvl := ℕ) (Val := Elt F) (τ := τ) osem c) := by
  unfold zeros Pipeline.ownSems0
  rw [unscopedSems0_eq, bigSep_fams]
  simp only [each_devs]
  iintro ⟨H, H'⟩
  isplitl [H] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, Hz⟩
  ihave Hz := (zeros_sems c) $$ Hz
  icases Hz with ⟨HB, HF⟩
  isplitl [HB]; · iexact HB
  isplitl [HF]; · iexact HF
  iexact Hr

theorem lv_stage (c : Dev nD) (w : Fin cfg0.W) (s : Fin (cfg0.win w).nbuf) : lv ((c : Thread nD τ), SemLoc.dma ((cfg0.win w).sem s)) () ≤ 0 := by
  have h := stage_val w s
  have hk : kindOf (SemLoc.dma ((cfg0.win w).sem s)) = none := dif_neg (show ¬(6 ≤ ((cfg0.win w).sem s).val ∧ ((cfg0.win w).sem s).val < 134) from by omega)
  unfold lv
  rw [hk]

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (O₀ c) (lv_stage c w s) (above_O₀ c)
    · exact mayWait c _ 0 0 (lv_stage c w s) (fun _ _ h => absurd h (Nat.lt_irrefl 0))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with zero counters, every weakly fair execution of the program on
    32 devices terminates, with each device's arrays at the computed contents and every counter at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start (Vv m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array's one block, the whole array, read back is what the body left. -/
theorem finalA_out (c : Dev nD) : (win0_5.blk (0 : Fin 1)).view.read (Elt F) (finalA m ρ c (5 : Fin 6)) = result m ρ := by
  unfold finalA
  rw [show cfg0.N = ((0 : Fin 1) : Fin cfg0.N).val + 1 from rfl, (dats m ρ 0 c).arrAt_succ (5 : Fin 6) (0 : Fin 1),
    show (cfg0.win (5 : Fin 6)).flush (0 : Fin 1) = true from flush0_5 _, if_pos rfl]
  exact View.read_write_univ _ _

/-- Each input window's one block is its whole argument array. -/
theorem insOf_eq (c : Dev nD) : insOf m ρ c = ⟨m ((c : Thread nD τ).loc main_arg0), m ((c : Thread nD τ).loc main_arg1), m ((c : Thread nD τ).loc main_arg4),
    m ((c : Thread nD τ).loc main_arg2), m ((c : Thread nD τ).loc main_arg3)⟩ := by
  unfold insOf st₀
  congr 1
  · exact Memref.read_access_unit_zero (Elt F) main_arg0 (funext fun a => by fin_cases a <;> rfl) (fun a => by fin_cases a <;> decide) _
  · exact Memref.read_access_unit_zero (Elt F) main_arg1 (funext fun a => by fin_cases a <;> rfl) (fun a => by fin_cases a <;> decide) _
  · exact Memref.read_access_unit_zero (Elt F) main_arg4 (funext fun a => by fin_cases a <;> rfl) (fun a => by fin_cases a <;> decide) _
  · exact Memref.read_access_unit_zero (Elt F) main_arg2 (funext fun a => by fin_cases a <;> rfl) (fun a => by fin_cases a <;> decide) _
  · exact Memref.read_access_unit_zero (Elt F) main_arg3 (funext fun a => by fin_cases a <;> rfl) (fun a => by fin_cases a <;> decide) _

/-- The run with its memory spelled out: every device's result array ends at `result`, its arguments are
    unchanged, and every counter is zero. -/
theorem run_values : θ_run defs (onTc (τ := τ) (main (F := F))) ⟨m, fun _ => 0, ρ⟩ (fun r =>
    (∀ c : Dev nD, r.2.mem ((c : Thread nD τ).loc main_v1) = result m ρ
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine (θ_run defs _ _).mono (fun r h => ⟨fun c => ⟨(h.1 c 5).trans ?_, (h.1 c 0).trans ((dats m ρ 0 c).arrAt_in 0 rfl _), (h.1 c 1).trans ((dats m ρ 0 c).arrAt_in 1 rfl _),
    (h.1 c 3).trans ((dats m ρ 0 c).arrAt_in 3 rfl _), (h.1 c 4).trans ((dats m ρ 0 c).arrAt_in 4 rfl _), (h.1 c 2).trans ((dats m ρ 0 c).arrAt_in 2 rfl _)⟩, h.2⟩) (run_main m ρ)
  exact (Memref.read_access_unit_zero (Elt F) main_v1 (funext fun a => by fin_cases a <;> rfl) (fun a => by fin_cases a <;> decide) _).symm.trans (finalA_out m ρ c)

end Cert.KernelIdeal.Loop

end
-- ==== Proof.Softmax.lean ====
/- The mathematics of the claim, on extended reals. A softmax row computed chunk by chunk with a
   running maximum gives the same quotient as the plain sums of exponentials, when the scores are
   real numbers. The values averaged may be infinite. -/
module

public import Idealize.ShloMosaic.PureOps.Ideal.Laws

@[expose] public section

noncomputable section

namespace Cert.Softmax

open Idealize.ShloMosaic

/-! ## Real numbers among the extended ones -/

/-- `a` is a real number. -/
def IsReal (a : EReal) : Prop := ∃ r : ℝ, a = (r : EReal)

theorem IsReal.mul {a b : EReal} (ha : IsReal a) (hb : IsReal b) : IsReal (a * b) := by
  obtain ⟨r, rfl⟩ := ha
  obtain ⟨t, rfl⟩ := hb
  exact ⟨r * t, (EReal.coe_mul r t).symm⟩

theorem IsReal.add {a b : EReal} (ha : IsReal a) (hb : IsReal b) : IsReal (a + b) := by
  obtain ⟨r, rfl⟩ := ha
  obtain ⟨t, rfl⟩ := hb
  exact ⟨r + t, (EReal.coe_add r t).symm⟩

theorem IsReal.max {a b : EReal} (ha : IsReal a) (hb : IsReal b) : IsReal (max a b) := by
  rcases max_choice a b with h | h <;> rw [h] <;> assumption

theorem IsReal.sum {ι : Type} (t : Finset ι) (f : ι → EReal) (hf : ∀ k ∈ t, IsReal (f k)) : IsReal (∑ k ∈ t, f k) :=
  Finset.sum_induction f IsReal (fun _ _ => IsReal.add) ⟨0, rfl⟩ hf

/-- The maximum of real numbers, started at `⊥`, over something. -/
theorem isReal_fold_max {ι : Type} [DecidableEq ι] (t : Finset ι) (f : ι → EReal) (hf : ∀ k, IsReal (f k)) :
    t.fold Max.max ⊥ f = ⊥ ∧ t = ∅ ∨ IsReal (t.fold Max.max ⊥ f) := by
  induction t using Finset.induction_on with
  | empty => exact .inl ⟨rfl, rfl⟩
  | insert k t hk ih =>
    rw [Finset.fold_insert hk]
    rcases ih with ⟨h, _⟩ | h
    · rw [h, max_bot_right]; exact .inr (hf k)
    · exact .inr ((hf k).max h)

theorem isReal_fold_max_univ {n : ℕ} (f : Fin (n + 1) → EReal) (hf : ∀ k, IsReal (f k)) :
    IsReal (Finset.univ.fold Max.max ⊥ f) := by
  rcases isReal_fold_max Finset.univ f hf with ⟨_, h⟩ | h
  · exact absurd (Finset.mem_univ 0) (h ▸ Finset.notMem_empty _)
  · exact h

theorem isReal_of_abs_lt_top {a : EReal} (h : max a (-a) < ⊤) : IsReal a := by
  induction a with
  | bot => simp at h
  | top => simp at h
  | coe r => exact ⟨r, rfl⟩

/-! ## Sums -/

/-- Multiplying by a nonnegative real number distributes over a sum of any extended reals. -/
theorem sum_mul_real {ι : Type} (t : Finset ι) (f : ι → EReal) {c : ℝ} (hc : 0 ≤ c) :
    (∑ k ∈ t, f k) * (c : EReal) = ∑ k ∈ t, f k * (c : EReal) := by
  classical
  induction t using Finset.induction_on with
  | empty => simp
  | insert k t hk ih =>
    rw [Finset.sum_insert hk, Finset.sum_insert hk,
      EReal.right_distrib_of_nonneg_of_ne_top (EReal.coe_nonneg.mpr hc) (EReal.coe_ne_top c), ih]

/-- A sum cut in `n` blocks of `w`. -/
theorem sum_blocks (w : ℕ) (f : ℕ → EReal) (n : ℕ) :
    ∑ d ∈ Finset.range n, ∑ j ∈ Finset.range w, f (w * d + j) = ∑ j ∈ Finset.range (w * n), f j := by
  induction n with
  | zero => simp
  | succ n ih => rw [Finset.sum_range_succ, ih, Nat.mul_succ, Finset.sum_range_add]

/-- The same, over the block numbers and the places in a block. -/
theorem sum_blocks_fin (w n : ℕ) (f : ℕ → EReal) :
    ∑ d : Fin n, ∑ j : Fin w, f (w * d.val + j.val) = ∑ j ∈ Finset.range (w * n), f j := by
  rw [← sum_blocks, Finset.sum_range]
  exact Finset.sum_congr rfl fun d _ => (Finset.sum_range fun j => f (w * d.val + j)).symm

/-! ## Exponentials -/

theorem exp_coe (r : ℝ) : Ideal.exp (r : EReal) = (Real.exp r : EReal) := rfl

/-- Changing what is subtracted in the exponent from `a` to `b` multiplies by the exponential of `a - b`. -/
theorem exp_sub_mul {s a b : EReal} (hs : IsReal s) (ha : IsReal a) (hb : IsReal b) :
    Ideal.exp (s - a) * Ideal.exp (a - b) = Ideal.exp (s - b) := by
  obtain ⟨s, rfl⟩ := hs
  obtain ⟨a, rfl⟩ := ha
  obtain ⟨b, rfl⟩ := hb
  rw [← EReal.coe_sub, ← EReal.coe_sub, ← EReal.coe_sub, exp_coe, exp_coe, exp_coe, ← EReal.coe_mul, ← Real.exp_add,
    sub_add_sub_cancel]

theorem exp_sub_mul_exp {s a : EReal} (hs : IsReal s) (ha : IsReal a) : Ideal.exp (s - a) * Ideal.exp a = Ideal.exp s := by
  obtain ⟨s, rfl⟩ := hs
  obtain ⟨a, rfl⟩ := ha
  rw [← EReal.coe_sub, exp_coe, exp_coe, exp_coe, ← EReal.coe_mul, ← Real.exp_add, sub_add_cancel]

theorem exp_real {s : EReal} (hs : IsReal s) : ∃ r : ℝ, 0 < r ∧ Ideal.exp s = (r : EReal) := by
  obtain ⟨s, rfl⟩ := hs
  exact ⟨Real.exp s, Real.exp_pos s, rfl⟩

theorem IsReal.sub {a b : EReal} (ha : IsReal a) (hb : IsReal b) : IsReal (a - b) := by
  obtain ⟨r, rfl⟩ := ha
  obtain ⟨t, rfl⟩ := hb
  exact ⟨r - t, (EReal.coe_sub r t).symm⟩

/-! ## The running sums

`s` are the scores of one query row and head, `v` the factors of the exponentials: the values of one
column for the numerators, ones for the denominators. -/

section

variable (s : ℕ → EReal) (v : ℕ → EReal)

/-- The sum over the first `n` keys, `m` subtracted in the exponents. -/
def part (n : ℕ) (m : EReal) : EReal := ∑ j ∈ Finset.range n, v j * Ideal.exp (s j - m)

/-- The plain sum over the first `n` keys. -/
def plain (n : ℕ) : EReal := ∑ j ∈ Finset.range n, v j * Ideal.exp (s j)

variable {s}

/-- One more chunk of `w` keys. -/
theorem part_step (hs : ∀ j, IsReal (s j)) (n w : ℕ) (m m' : EReal) (hm : n = 0 ∨ IsReal m) (hm' : IsReal m') :
    part s v n m * Ideal.exp (m - m') + ∑ j : Fin w, v (n + j.val) * Ideal.exp (s (n + j.val) - m') = part s v (n + w) m' := by
  unfold part
  rw [Finset.sum_range_add, ← Finset.sum_range fun j => v (n + j) * Ideal.exp (s (n + j) - m')]
  congr 1
  rcases hm with rfl | hm
  · simp
  · obtain ⟨c, hc, e⟩ := exp_real (hm.sub hm')
    rw [e, sum_mul_real _ _ hc.le, ← e]
    refine Finset.sum_congr rfl fun j _ => ?_
    rw [mul_assoc, exp_sub_mul (hs j) hm hm']

/-- What the plain sum is of the one with `m` subtracted. -/
theorem part_mul_exp (hs : ∀ j, IsReal (s j)) (n : ℕ) {m : EReal} (hm : IsReal m) :
    part s v n m * Ideal.exp m = plain s v n := by
  unfold part plain
  obtain ⟨c, hc, e⟩ := exp_real hm
  rw [e, sum_mul_real _ _ hc.le, ← e]
  refine Finset.sum_congr rfl fun j _ => ?_
  rw [mul_assoc, exp_sub_mul_exp (hs j) hm]

/-- The sum of the exponentials is a positive real number. -/
theorem part_one_pos (hs : ∀ j, IsReal (s j)) (n : ℕ) {m : EReal} (hm : IsReal m) :
    ∃ r : ℝ, 0 < r ∧ part s (fun _ => 1) (n + 1) m = (r : EReal) := by
  unfold part
  induction n with
  | zero =>
    obtain ⟨r, hr, e⟩ := exp_real ((hs 0).sub hm)
    exact ⟨r, hr, by simp [e]⟩
  | succ n ih =>
    obtain ⟨a, ha, ea⟩ := ih
    obtain ⟨r, hr, e⟩ := exp_real ((hs (n + 1)).sub hm)
    refine ⟨a + r, add_pos ha hr, ?_⟩
    rw [Finset.sum_range_succ, ea, one_mul, e, EReal.coe_add]

end

theorem div_real (o : EReal) {l : ℝ} (hl : 0 < l) : Ideal.div o (l : EReal) = o * ((l⁻¹ : ℝ) : EReal) := by
  unfold Ideal.div
  rw [if_neg (EReal.coe_ne_zero.mpr hl.ne'), EReal.coe_inv]

/-- Numerator and denominator times the same positive real number. -/
theorem div_mul_real (o : EReal) {l c : ℝ} (hl : 0 < l) (hc : 0 < c) :
    Ideal.div (o * (c : EReal)) ((l : EReal) * (c : EReal)) = Ideal.div o (l : EReal) := by
  rw [← EReal.coe_mul, div_real _ (mul_pos hl hc), div_real _ hl, mul_assoc, ← EReal.coe_mul]
  congr 2
  field_simp

/-- The quotient is the same with and without a real number subtracted in the exponents. -/
theorem div_part (s v : ℕ → EReal) (hs : ∀ j, IsReal (s j)) (n : ℕ) {m : EReal} (hm : IsReal m) :
    Ideal.div (part s v (n + 1) m) (part s (fun _ => 1) (n + 1) m) = Ideal.div (plain s v (n + 1)) (plain s (fun _ => 1) (n + 1)) := by
  rw [← part_mul_exp v hs (n + 1) hm, ← part_mul_exp (fun _ => 1) hs (n + 1) hm]
  obtain ⟨c, hc, ec⟩ := exp_real hm
  obtain ⟨l, hl, el⟩ := part_one_pos hs n hm
  rw [el, ec, div_mul_real _ hl hc]

/-! ## The constants -/

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

theorem isReal_eighth : IsReal (Ideal.ofBits .f32 0x3E000000#32) := by
  unfold Ideal.ofBits Ideal.ieee
  dsimp only
  rw [if_neg (by decide), if_neg (by decide)]
  exact ⟨_, rfl⟩

end Cert.Softmax

end
-- ==== Proof.Finite.lean ====
/- The precondition `finite`, read: every entry of `x`, `Wq` and a device's block of `K_ext` is a real number. -/
module

public import proofs.«01_k».proof.Proof.Softmax
public import proofs.«01_k».proof.Proof.Gen.Pre_finite_KernelIdeal
public import Idealize.ShloMosaic.Lib.ReduceAll
public import Idealize.ShloMosaic.Lib.Affine

@[expose] public section

noncomputable section

namespace Cert.Pre_finite_KernelIdeal

open Cert.Pre_finite_KernelIdeal.Gen
open Idealize.ShloMosaic
open Cert.Softmax

/-- If the test `|x| < ∞` holds at an index, the entry is a real number. -/
theorem isReal_of_test {s : Shape} (x : FVec Ideal s .f32) (hb : S_.BroadcastsInDim s (![] : Fin 0 → Fin s.rank)) (t : s.Idx)
    (e : cmpf .olt (Host.absf x) (broadcastInDim s ![] hb (constant S_ .f32 0x7F800000#32)) t = 1#1) : IsReal (x t) := by
  have e' : Ideal.cmp .olt (max (x t) (-(x t))) (Ideal.ofBits .f32 0x7F800000#32) = 1#1 := e
  rw [ofBits_inf] at e'
  refine isReal_of_abs_lt_top ?_
  by_contra hn
  simp [Ideal.cmp, hn] at e'

/-- If the test holds at every index, every entry is a real number. -/
theorem isReal_of_all {s : Shape} (x : FVec Ideal s .f32) (hb : S_.BroadcastsInDim s (![] : Fin 0 → Fin s.rank)) {dims : List (Fin s.rank)}
    (hr : s.ReducesTo dims S_) (hu : 0 < S_.numel) (j : S_.Idx)
    (e : Host.reduce IntOp.andi (cmpf .olt (Host.absf x) (broadcastInDim s ![] hb (constant S_ .f32 0x7F800000#32))) (constantI S_ 1 1#1) hr hu j
      = 1#1) (t : s.Idx) : IsReal (x t) :=
  haveI : Subsingleton S_.Idx := ⟨fun _ _ => funext fun a => a.elim0⟩
  isReal_of_test x hb t (Host.reduce_andi_all _ _ hr hu j e t)

theorem isReal_inputs (x : FVec Ideal S2x128x512 .f32) (wq : FVec Ideal S512x512 .f32) (k v : FVec Ideal S2x128x2x64 .f32)
    (wo : FVec Ideal S512x512 .f32) (h : fn (F := Ideal) x wq k v wo = fun _ => 1#1) :
    (∀ t, IsReal (x t)) ∧ (∀ t, IsReal (wq t)) ∧ ∀ t, IsReal (k t) := by
  let j : S_.Idx := fun a => a.elim0
  have e := congrFun h j
  obtain ⟨e, ek⟩ := IntOp.andi_eq_one.mp e
  obtain ⟨ex, ew⟩ := IntOp.andi_eq_one.mp e
  exact ⟨isReal_of_all x Facts.bcast_S_S2x128x512 Facts.reducesTo_S2x128x512_S_d0_1_2 Facts.h_S_ j ex,
    isReal_of_all wq Facts.bcast_S_S512x512 Facts.reducesTo_S512x512_S_d0_1 Facts.h_S_ j ew,
    isReal_of_all k Facts.bcast_S_S2x128x2x64 Facts.reducesTo_S2x128x2x64_S_d0_1_2_3 Facts.h_S_ j ek⟩

end Cert.Pre_finite_KernelIdeal

end
-- ==== Proof.Attention.lean ====
/- What both programs compute, as one formula on extended reals: the queries, the scaled scores, the
   averaged values of every head, and their product with the output weights. -/
module

public import proofs.«01_k».proof.Proof.Softmax
public import Idealize.ShloMosaic.Lib.Pointwise

@[expose] public section

noncomputable section

namespace Cert.Attention

open Idealize.ShloMosaic
open Cert.Softmax

/-- Key number `j`. -/
def key (j : ℕ) : Fin 4096 := ⟨j % 4096, Nat.mod_lt _ (by decide)⟩

/-- The key/value head of query head `h`. -/
def kvHead (h : Fin 8) : Fin 2 := ⟨h.val / 4, by omega⟩

variable (x : FVec Ideal ⟨3, ![2, 128, 512]⟩ .f32) (wq wo : FVec Ideal ⟨2, ![512, 512]⟩ .f32)
  (k v : FVec Ideal ⟨4, ![2, 4096, 2, 64]⟩ .f32)

/-- Column `n` of the query of row `i` of batch `b`. -/
def query (b : Fin 2) (i : Fin 128) (n : Fin 512) : EReal := ∑ c : Fin 512, x (ix3 b i c) * wq (ix2 c n)

/-- The scaled score of key `j`. -/
def score (b : Fin 2) (i : Fin 128) (h : Fin 8) (j : ℕ) : EReal :=
  (∑ d : Fin 64, query x wq b i ⟨h.val * 64 + d.val, by omega⟩ * k (ix4 b (key j) (kvHead h) d)) * Ideal.ofBits .f32 0x3E000000#32

/-- Column `d` of the value of key `j`. -/
def value (b : Fin 2) (h : Fin 8) (d : Fin 64) (j : ℕ) : EReal := v (ix4 b (key j) (kvHead h) d)

/-- Column `n` of row `i` of batch `b` of the result. -/
def attention (b : Fin 2) (i : Fin 128) (n : Fin 512) : EReal :=
  ∑ c : Fin 512, Ideal.div
      (plain (score x wq k b i ⟨c.val / 64, by omega⟩) (value v b ⟨c.val / 64, by omega⟩ ⟨c.val % 64, by omega⟩) 4096)
      (plain (score x wq k b i ⟨c.val / 64, by omega⟩) (fun _ => 1) 4096)
    * wo (ix2 c n)

/-- With real inputs the scores are real. -/
theorem isReal_score (hx : ∀ t, IsReal (x t)) (hwq : ∀ t, IsReal (wq t)) (hk : ∀ t, IsReal (k t)) (b : Fin 2) (i : Fin 128)
    (h : Fin 8) (j : ℕ) : IsReal (score x wq k b i h j) := by
  refine IsReal.mul (IsReal.sum _ _ fun d _ => IsReal.mul ?_ (hk _)) isReal_eighth
  exact IsReal.sum _ _ fun c _ => (hx _).mul (hwq _)

end Cert.Attention

end
-- ==== Proof.KernelRead.lean ====
/- The kernel's values, each read at an index. -/
module

public import proofs.«01_k».proof.Proof.ComputeIdeal
public import proofs.«01_k».proof.Proof.Attention

@[expose] public section

set_option maxRecDepth 16384

noncomputable section

namespace Cert.KernelIdeal.Loop

open Cert.KernelIdeal Cert.KernelIdeal.Gen
open Idealize.ShloMosaic
open Cert.Softmax Cert.Attention

/-! ## Places -/

theorem xRect_ix (b : Fin 2) (i : Fin 128) (n : Fin 512) : (xRect b).emb (ix3 0 i n) = ix3 b i n := by
  funext a
  fin_cases a
  · exact Fin.ext (show b.val + 1 * 0 = b.val by omega)
  · exact Fin.ext (show 0 + 1 * i.val = i.val by omega)
  · exact Fin.ext (show 0 + 1 * n.val = n.val by omega)

theorem kvRect_ix (b g : Fin 2) (j : Fin 128) (d : Fin 64) : (kvRect b g).emb (ix4 0 j 0 d) = ix4 b j g d := by
  funext a
  fin_cases a
  · exact Fin.ext (show b.val + 1 * 0 = b.val by omega)
  · exact Fin.ext (show 0 + 1 * j.val = j.val by omega)
  · exact Fin.ext (show g.val + 1 * 0 = g.val by omega)
  · exact Fin.ext (show 0 + 1 * d.val = d.val by omega)

theorem halfRect_ix (b : Fin 2) (i : Fin 128) (n : Fin 512) :
    (halfRect b).emb (ix2 i n) = ix2 (⟨128 * b.val + i.val, by omega⟩ : Fin 256) n := by
  funext a
  fin_cases a
  · exact Fin.ext (show 128 * b.val + 1 * i.val = 128 * b.val + i.val by omega)
  · exact Fin.ext (show 0 + 1 * n.val = n.val by omega)

theorem row520_ix (d : Fin 32) (r : Fin 8) (n : Fin 520) :
    (row520 d).emb (ix2 r n) = ix2 (⟨8 * d.val + r.val, by omega⟩ : Fin 256) n := by
  funext a
  fin_cases a
  · exact Fin.ext (show 8 * d.val + 1 * r.val = 8 * d.val + r.val by omega)
  · exact Fin.ext (show 0 + 1 * n.val = n.val by omega)

/-! ## Values -/

theorem queries_apply (x : FVec Ideal S2x128x512 .f32) (w : FVec Ideal S512x512 .f32) (b : Fin 2) (i : Fin 128) (n : Fin 512) :
    queries (cut (xRect b) x) w (ix2 i n) = query x w b i n := by
  pointwise [queries, query, cut]
  simp only [xRect_ix]

theorem qGroup_apply (q : FVec Ideal S128x512 .f32) (g : Fin 2) (j : Fin 4) (i : Fin 128) (d : Fin 64) :
    qGroup q g (ix2 ⟨128 * j.val + i.val, by omega⟩ d) = q (ix2 i ⟨256 * g.val + 64 * j.val + d.val, by omega⟩) := by
  pointwise [qGroup, qHead]
  split_ifs
  all_goals
    congr 2
    · exact Fin.ext (by dsimp only; omega)
    · exact Fin.ext (by dsimp only; omega)

theorem weights_apply (qs : FVec Ideal S512x64 .f32) (k : FVec Ideal S2x128x2x64 .f32) (b g : Fin 2) (r : Fin 512) (j : Fin 128) :
    weights qs (cut (kvRect b g) k) (ix2 r j)
      = Ideal.exp ((∑ d : Fin 64, qs (ix2 r d) * k (ix4 b j g d)) * Ideal.ofBits .f32 0x3E000000#32) := by
  pointwise [weights, cut]
  simp only [kvRect_ix]

theorem oTile_apply (p : FVec Ideal S512x128 .f32) (v : FVec Ideal S2x128x2x64 .f32) (b g : Fin 2) (j : Fin 4) (i : Fin 128) (d : Fin 64) :
    oTile (weighted p (cut (kvRect b g) v)) j (ix2 i d)
      = ∑ c : Fin 128, p (ix2 ⟨128 * j.val + i.val, by omega⟩ c) * v (ix4 b c g d) := by
  pointwise [oTile, weighted, cut]
  simp only [kvRect_ix]

theorem lTile_apply (p : FVec Ideal S512x128 .f32) (j : Fin 4) (i : Fin 128) :
    lTile (rowSums p) j (ix2 i 0) = ∑ c : Fin 128, p (ix2 ⟨128 * j.val + i.val, by omega⟩ c) := by
  pointwise [lTile, rowSums]

theorem lAll_apply (acc : FVec Ideal S8x520 .f32) (r : Fin 8) (n : Fin 512) :
    lAll acc (ix2 r n) = acc (ix2 r ⟨512 + n.val / 64, by omega⟩) := by
  have hn := n.isLt
  pointwise [lAll, lCol]
  split_ifs
  all_goals
    congr 2
    refine Fin.ext ?_
    norm_num
    omega

theorem slab_apply (acc : FVec Ideal S8x520 .f32) (w : FVec Ideal S512x512 .f32) (r : Fin 8) (n : Fin 512) :
    slab acc w (ix2 r n)
      = ∑ c : Fin 512, Ideal.div (acc (ix2 r ⟨c.val, by omega⟩)) (acc (ix2 r ⟨512 + c.val / 64, by omega⟩)) * w (ix2 c n) := by
  simp only [← lAll_apply]
  pointwise [slab]

theorem unsplit_apply (y : FVec Ideal S128x512 .f32) (i : Fin 128) (n : Fin 512) :
    shapeCast S1x128x512 y shapeCasts_S128x512_S1x128x512 (ix3 0 i n) = y (ix2 i n) := by
  pointwise

theorem outOf_apply (o2 : FVec Ideal S256x512 .f32) (b : Fin 2) (i : Fin 128) (n : Fin 512) :
    outOf o2 (ix3 b i n) = o2 (ix2 ⟨128 * b.val + i.val, by omega⟩ n) := by
  have e : (Fin.cons (0 : Fin 1) (Fin.cons i (Fin.cons n (fun a => a.elim0))) : S1x128x512.Idx) = ix3 0 i n := by
    funext a
    fin_cases a <;> rfl
  have c : cut (halfRect b) o2 (ix2 i n) = o2 (ix2 ⟨128 * b.val + i.val, by omega⟩ n) := by
    unfold cut
    rw [halfRect_ix]
  have h : outOf o2 (ix3 b i n) = shapeCast S1x128x512 (cut (halfRect b) o2) shapeCasts_S128x512_S1x128x512
      (Fin.cons (0 : Fin 1) (Fin.cons i (Fin.cons n (fun a => a.elim0)))) := rfl
  rw [h, ← c, e]
  exact unsplit_apply _ i n

end Cert.KernelIdeal.Loop

end
-- ==== Proof.KernelValue.lean ====
/- The kernel's result, read at an index: when every device has the same `x`, `Wq` and `Wo` and its own
   block of the keys and values, it is the formula of Attention.lean. -/
module

public import proofs.«01_k».proof.Proof.KernelRead
public import Idealize.ShloMosaic.Lib.Layout

@[expose] public section

set_option maxRecDepth 16384

noncomputable section

namespace Cert.KernelIdeal.Loop

open Cert.KernelIdeal Cert.KernelIdeal.Gen
open Idealize.ShloMosaic
open Cert.Softmax Cert.Attention

/-- Adding arrays one after another, at an index. -/
theorem foldl_addf {s : Shape} (f : Fin 32 → FVec Ideal s .f32) (l : List (Fin 32)) (a : FVec Ideal s .f32) (t : s.Idx) :
    l.foldl (fun acc d => addf acc (f d)) a t = a t + (l.map fun d => f d t).sum := by
  induction l generalizing a with
  | nil => exact (add_zero _).symm
  | cons d l ih =>
    rw [List.foldl_cons, ih, List.map_cons, List.sum_cons, ← add_assoc]
    rfl

/-- The summed row blocks at an index. -/
theorem accOf_apply (rs : FVec Ideal S256x520 .f32) (r : Fin 8) (n : Fin 520) :
    accOf rs (ix2 r n) = ∑ d : Fin 32, rs (ix2 ⟨8 * d.val + r.val, by omega⟩ n) := by
  unfold accOf
  rw [foldl_addf, Fin.sum_univ_def]
  show ((0 :: devs.tail).map fun d => cut (row520 d) rs (ix2 r n)).sum = _
  rw [show (0 :: devs.tail) = List.finRange 32 by decide]
  simp only [cut, row520_ix]

/-- The block of the keys or values that device `c` has, at an index. -/
theorem block_ix (X : FVec Ideal ⟨4, ![2, 4096, 2, 64]⟩ .f32) (c : Fin 32) (b : Fin 2) (j : Fin 128) (g : Fin 2) (d : Fin 64) :
    Layout.block ⟨4, ![2, 128, 2, 64]⟩ ⟨4, ![2, 4096, 2, 64]⟩ 1 32 c X (by decide) (ix4 b j g d) = X (ix4 b (key (128 * c.val + j.val)) g d) := by
  rw [Layout.block_apply]
  congr 1
  funext a
  fin_cases a
  · rfl
  · exact Fin.ext (show c.val * 128 + j.val = (128 * c.val + j.val) % 4096 by omega)
  · rfl
  · rfl

variable (i : Ins Ideal)

theorem q_apply (b : Fin 2) (r : Fin 128) (n : Fin 512) : i.q b (ix2 r n) = query i.x i.wq b r n := queries_apply i.x i.wq b r n

theorem p_apply (b g : Fin 2) (j : Fin 4) (r c : Fin 128) :
    i.p b g (ix2 ⟨128 * j.val + r.val, by omega⟩ c)
      = Ideal.exp ((∑ d : Fin 64, query i.x i.wq b r ⟨256 * g.val + 64 * j.val + d.val, by omega⟩ * i.k (ix4 b c g d))
          * Ideal.ofBits .f32 0x3E000000#32) := by
  unfold Ins.p
  rw [weights_apply]
  simp only [qGroup_apply, q_apply]

/-- Where the numerators are in the send buffer. -/
theorem ol_o (b : Fin 2) (r : Fin 128) (n : Fin 512) :
    i.ol (ix2 ⟨128 * b.val + r.val, by omega⟩ ⟨n.val, by omega⟩)
      = i.o b ⟨n.val / 256, by omega⟩ ⟨n.val / 64 % 4, by omega⟩ (ix2 r ⟨n.val % 64, by omega⟩) := by
  rw [← ol_oRect]
  congr 1
  funext a
  fin_cases a
  · exact Fin.ext (show 128 * b.val + r.val = 128 * b.val + 1 * r.val by omega)
  · refine Fin.ext ?_
    show n.val = 64 * (headOf _ _).val + 1 * (n.val % 64)
    rw [headOf_val]
    dsimp only
    omega

/-- Where the denominators are in the send buffer. -/
theorem ol_l (b : Fin 2) (r : Fin 128) (h : Fin 8) :
    i.ol (ix2 ⟨128 * b.val + r.val, by omega⟩ ⟨512 + h.val, by omega⟩)
      = i.l b ⟨h.val / 4, by omega⟩ ⟨h.val % 4, by omega⟩ (ix2 r 0) := by
  rw [← ol_lRect]
  congr 1
  funext a
  fin_cases a
  · exact Fin.ext (show 128 * b.val + r.val = 128 * b.val + 1 * r.val by omega)
  · refine Fin.ext ?_
    show 512 + h.val = 512 + (headOf _ _).val + 1 * 0
    rw [headOf_val]
    dsimp only
    omega

/-- The numerators a device sends. -/
theorem ol_num (b : Fin 2) (r : Fin 128) (n : Fin 512) :
    i.ol (ix2 ⟨128 * b.val + r.val, by omega⟩ ⟨n.val, by omega⟩)
      = ∑ c : Fin 128, Ideal.exp ((∑ d : Fin 64, query i.x i.wq b r ⟨n.val / 64 * 64 + d.val, by omega⟩ * i.k (ix4 b c (kvHead ⟨n.val / 64, by omega⟩) d))
          * Ideal.ofBits .f32 0x3E000000#32) * i.v (ix4 b c (kvHead ⟨n.val / 64, by omega⟩) ⟨n.val % 64, by omega⟩) := by
  have hn := n.isLt
  have hk : kvHead ⟨n.val / 64, by omega⟩ = ⟨n.val / 256, by omega⟩ := Fin.ext (show n.val / 64 / 4 = n.val / 256 by omega)
  have hq : ∀ d : Fin 64, (⟨n.val / 64 * 64 + d.val, by omega⟩ : Fin 512) = ⟨256 * (n.val / 256) + 64 * (n.val / 64 % 4) + d.val, by omega⟩ :=
    fun d => Fin.ext (show n.val / 64 * 64 + d.val = 256 * (n.val / 256) + 64 * (n.val / 64 % 4) + d.val by omega)
  rw [ol_o, hk]
  simp only [hq]
  unfold Ins.o
  rw [oTile_apply]
  exact Finset.sum_congr rfl fun c _ => congrArg (· * _) (p_apply i b ⟨n.val / 256, by omega⟩ ⟨n.val / 64 % 4, by omega⟩ r c)

/-- The denominators a device sends. -/
theorem ol_den (b : Fin 2) (r : Fin 128) (h : Fin 8) :
    i.ol (ix2 ⟨128 * b.val + r.val, by omega⟩ ⟨512 + h.val, by omega⟩)
      = ∑ c : Fin 128, Ideal.exp ((∑ d : Fin 64, query i.x i.wq b r ⟨h.val * 64 + d.val, by omega⟩ * i.k (ix4 b c (kvHead h) d))
          * Ideal.ofBits .f32 0x3E000000#32) := by
  have hh := h.isLt
  have hq : ∀ d : Fin 64, (⟨h.val * 64 + d.val, by omega⟩ : Fin 512) = ⟨256 * (h.val / 4) + 64 * (h.val % 4) + d.val, by omega⟩ :=
    fun d => Fin.ext (show h.val * 64 + d.val = 256 * (h.val / 4) + 64 * (h.val % 4) + d.val by omega)
  rw [ol_l]
  simp only [hq]
  unfold Ins.l
  rw [lTile_apply]
  exact Finset.sum_congr rfl fun c _ => p_apply i b ⟨h.val / 4, by omega⟩ ⟨h.val % 4, by omega⟩ r c

/-! ## The result -/

section

variable (x : FVec Ideal S2x128x512 .f32) (wq wo : FVec Ideal S512x512 .f32) (K V : FVec Ideal ⟨4, ![2, 4096, 2, 64]⟩ .f32)

/-- The inputs of device `c`. -/
def insAt (c : Dev nD) : Ins Ideal where
  x := x
  wq := wq
  wo := wo
  k := Layout.block ⟨4, ![2, 128, 2, 64]⟩ ⟨4, ![2, 4096, 2, 64]⟩ 1 32 c K (by decide)
  v := Layout.block ⟨4, ![2, 128, 2, 64]⟩ ⟨4, ![2, 4096, 2, 64]⟩ 1 32 c V (by decide)

/-- The device that has row `r` of batch `b`. -/
def rowDev (b : Fin 2) (r : Fin 128) : Fin 32 := ⟨(128 * b.val + r.val) / 8, by omega⟩
/-- The place of row `r` in that device's block. -/
def rowAt (b : Fin 2) (r : Fin 128) : Fin 8 := ⟨(128 * b.val + r.val) % 8, by omega⟩

/-- The row blocks received from the devices, summed. -/
theorem acc_apply (b : Fin 2) (r : Fin 128) (n : Fin 520) :
    accOf (F := Ideal) (rsOf (F := Ideal) (fun d => (insAt x wq wo K V d).ol) (rowDev b r)) (ix2 (rowAt b r) n)
      = ∑ d : Fin 32, (insAt x wq wo K V d).ol (ix2 ⟨128 * b.val + r.val, by omega⟩ n) := by
  rw [accOf_apply]
  refine Finset.sum_congr rfl fun d _ => ?_
  have e0 : owner520 (ix2 ⟨8 * d.val + (rowAt b r).val, by omega⟩ n) = d :=
    Fin.ext (show (8 * d.val + (128 * b.val + r.val) % 8) / 8 = d.val by omega)
  have e1 : inner520 (ix2 ⟨8 * d.val + (rowAt b r).val, by omega⟩ n) = ix2 (rowAt b r) n := by
    funext a
    fin_cases a
    · exact Fin.ext (show (8 * d.val + (128 * b.val + r.val) % 8) % 8 = (128 * b.val + r.val) % 8 by omega)
    · rfl
  unfold rsOf
  rw [e0, e1, row520_ix]
  congr 2
  exact Fin.ext (show 8 * ((128 * b.val + r.val) / 8) + (128 * b.val + r.val) % 8 = 128 * b.val + r.val by omega)

theorem acc_num (b : Fin 2) (r : Fin 128) (n : Fin 512) :
    accOf (F := Ideal) (rsOf (F := Ideal) (fun d => (insAt x wq wo K V d).ol) (rowDev b r)) (ix2 (rowAt b r) ⟨n.val, by omega⟩)
      = plain (score x wq K b r ⟨n.val / 64, by omega⟩) (value V b ⟨n.val / 64, by omega⟩ ⟨n.val % 64, by omega⟩) 4096 := by
  rw [acc_apply]
  unfold plain
  rw [← sum_blocks_fin 128 32]
  refine Finset.sum_congr rfl fun d _ => (ol_num _ b r n).trans (Finset.sum_congr rfl fun c _ => ?_)
  rw [mul_comm]
  unfold insAt score value
  simp only [block_ix]

theorem acc_den (b : Fin 2) (r : Fin 128) (h : Fin 8) :
    accOf (F := Ideal) (rsOf (F := Ideal) (fun d => (insAt x wq wo K V d).ol) (rowDev b r)) (ix2 (rowAt b r) ⟨512 + h.val, by omega⟩)
      = plain (score x wq K b r h) (fun _ => 1) 4096 := by
  rw [acc_apply]
  unfold plain
  rw [← sum_blocks_fin 128 32]
  refine Finset.sum_congr rfl fun d _ => (ol_den _ b r h).trans (Finset.sum_congr rfl fun c _ => ?_)
  rw [one_mul]
  unfold insAt score
  simp only [block_ix]

/-- The gathered rows at an index. -/
theorem o2_apply (t : S256x512.Idx) : (vals (insAt x wq wo K V)).o2 t
    = slab (F := Ideal) (accOf (F := Ideal) (rsOf (F := Ideal) (fun d => (insAt x wq wo K V d).ol) (owner512 t))) wo (inner512 t) := rfl

/-- The kernel computes the formula. -/
theorem out_apply (b : Fin 2) (r : Fin 128) (n : Fin 512) :
    outOf (F := Ideal) (vals (insAt x wq wo K V)).o2 (ix3 b r n) = attention x wq wo K V b r n := by
  have e : inner512 (ix2 ⟨128 * b.val + r.val, by omega⟩ n) = ix2 (rowAt b r) n := by
    funext a
    fin_cases a <;> rfl
  have e' : owner512 (ix2 ⟨128 * b.val + r.val, by omega⟩ n) = rowDev b r := rfl
  rw [outOf_apply, o2_apply, e, e', slab_apply]
  refine Finset.sum_congr rfl fun c _ => ?_
  rw [acc_num, acc_den x wq wo K V b r ⟨c.val / 64, by omega⟩]

end

end Cert.KernelIdeal.Loop

end
-- ==== Proof.RefTerm.lean ====
/- The reference's result as a few named functions: the queries, the repeated keys and values, one
   chunk of 1,024 keys, the running maximum, the running denominators and numerators. -/
module

public import proofs.«01_k».proof.Proof.Gen.ReferenceIdeal

@[expose] public section

noncomputable section

namespace Cert.ReferenceIdeal.Chunks

open Cert.ReferenceIdeal Cert.ReferenceIdeal.Gen
open Idealize.ShloMosaic

variable {F : FTy → Type} [FloatOps F]

/-- The queries, by head. -/
def queries (x : FVec F S2x128x512 .f32) (wq : FVec F S512x512 .f32) : FVec F S2x128x8x64 .f32 :=
  shapeCast S2x128x8x64 (Host.dotGeneral dot_S2x128x512_S512x512_S2x128x512_2_0_01_1_n_n none x wq) shapeCasts_S2x128x512_S2x128x8x64

/-- Keys or values, each head repeated four times. -/
def repeated (k : FVec F S2x4096x2x64 .f32) : FVec F S2x4096x8x64 .f32 :=
  shapeCast S2x4096x8x64 (broadcastInDim S2x4096x2x4x64 ![0, 1, 2, 4] bcast_S2x4096x2x64_S2x4096x2x4x64_0_1_2_4 k)
    shapeCasts_S2x4096x2x4x64_S2x4096x8x64

theorem chunk_inb : ∀ a : Fin 4, S2x4096x8x64.Slices ![0, 1024 * a.val, 0, 0] S2x1024x8x64 := by decide

/-- Chunk `a` of the repeated keys or values. -/
def chunk (a : Fin 4) (k : FVec F S2x4096x8x64 .f32) : FVec F S2x1024x8x64 .f32 :=
  extractStridedSlice S2x1024x8x64 ![0, 1024 * a.val, 0, 0] k (chunk_inb a)

/-- The scaled scores of one chunk. -/
def scores (q : FVec F S2x128x8x64 .f32) (k : FVec F S2x1024x8x64 .f32) : FVec F S2x8x128x1024 .f32 :=
  mulf (Host.dotGeneral dot_S2x128x8x64_S2x1024x8x64_S2x8x128x1024_3_3_1_1_02_02 none q k)
    (broadcastInDim S2x8x128x1024 ![] bcast_S_S2x8x128x1024 (constant S_ .f32 0x3E000000#32))

/-- The running maximum after one more chunk. -/
def newMax (m : FVec F S2x8x128x1 .f32) (s : FVec F S2x8x128x1024 .f32) : FVec F S2x8x128x1 .f32 :=
  maximumf m (broadcastInDim S2x8x128x1 ![0, 1, 2] bcast_S2x8x128_S2x8x128x1_0_1_2
    (Host.reduce FloatOps.maximumf s (constant S_ .f32 0xFF800000#32) reducesTo_S2x8x128x1024_S2x8x128_d3 h_S_))

/-- What the earlier sums are multiplied by when the running maximum changes from `m` to `m'`. -/
def rescale (m m' : FVec F S2x8x128x1 .f32) : FVec F S2x8x128x1 .f32 := Host.exp (subf m m')

/-- The exponentials of one chunk. -/
def weights (s : FVec F S2x8x128x1024 .f32) (m' : FVec F S2x8x128x1 .f32) : FVec F S2x8x128x1024 .f32 :=
  Host.exp (subf s (broadcastInDim S2x8x128x1024 ![0, 1, 2, 3] bcast_S2x8x128x1_S2x8x128x1024_0_1_2_3 m'))

/-- The denominators after one more chunk. -/
def newDen (l a : FVec F S2x8x128x1 .f32) (p : FVec F S2x8x128x1024 .f32) : FVec F S2x8x128x1 .f32 :=
  addf (mulf l a) (broadcastInDim S2x8x128x1 ![0, 1, 2] bcast_S2x8x128_S2x8x128x1_0_1_2
    (Host.reduceAdd p (constant S_ .f32 0x00000000#32) reducesTo_S2x8x128x1024_S2x8x128_d3 h_S_))

/-- One number per query row and head, repeated over the head's 64 columns. -/
def spread (a : FVec F S2x8x128x1 .f32) : FVec F S2x128x8x64 .f32 :=
  broadcastInDim S2x128x8x64 ![0, 1, 2, 3] bcast_S2x128x8x1_S2x128x8x64_0_1_2_3
    (transpose S2x128x8x1 [0, 2, 1, 3] a transposes_S2x8x128x1_S2x128x8x1_0_2_1_3)

/-- The numerators after one more chunk. -/
def newNum (o : FVec F S2x128x8x64 .f32) (a : FVec F S2x8x128x1 .f32) (p : FVec F S2x8x128x1024 .f32)
    (v : FVec F S2x1024x8x64 .f32) : FVec F S2x128x8x64 .f32 :=
  addf (mulf o (spread a)) (transpose S2x128x8x64 [0, 3, 1, 2]
    (Host.dotGeneral dot_S2x1024x8x64_S2x8x128x1024_S2x8x64x128_1_3_3_2_02_01 none v p) transposes_S2x8x64x128_S2x128x8x64_0_3_1_2)

/-- The running maximum, denominators and numerators. -/
structure State (F : FTy → Type) where
  m : FVec F S2x8x128x1 .f32
  l : FVec F S2x8x128x1 .f32
  o : FVec F S2x128x8x64 .f32

/-- Before the first chunk. -/
def start : State F where
  m := broadcastInDim S2x8x128x1 ![] bcast_S_S2x8x128x1 (constant S_ .f32 0xFF800000#32)
  l := broadcastInDim S2x8x128x1 ![] bcast_S_S2x8x128x1 (constant S_ .f32 0x00000000#32)
  o := broadcastInDim S2x128x8x64 ![] bcast_S_S2x128x8x64 (constant S_ .f32 0x00000000#32)

/-- One more chunk, of scores `s` and values `v`. -/
def step (st : State F) (s : FVec F S2x8x128x1024 .f32) (v : FVec F S2x1024x8x64 .f32) : State F where
  m := newMax st.m s
  l := newDen st.l (rescale st.m (newMax st.m s)) (weights s (newMax st.m s))
  o := newNum st.o (rescale st.m (newMax st.m s)) (weights s (newMax st.m s)) v

/-- After chunk `a`, from the state `st` before it. -/
def stepAt (x : FVec F S2x128x512 .f32) (wq : FVec F S512x512 .f32) (k v : FVec F S2x4096x2x64 .f32) (a : Fin 4) (st : State F) : State F :=
  step st (scores (queries x wq) (chunk a (repeated k))) (chunk a (repeated v))

/-- After all four chunks. -/
def final (x : FVec F S2x128x512 .f32) (wq : FVec F S512x512 .f32) (k v : FVec F S2x4096x2x64 .f32) : State F :=
  stepAt x wq k v 3 (stepAt x wq k v 2 (stepAt x wq k v 1 (stepAt x wq k v 0 start)))

/-- The quotients times the output weights. -/
def project (st : State F) (wo : FVec F S512x512 .f32) : FVec F S2x128x512 .f32 :=
  Host.dotGeneral dot_S2x128x512_S512x512_S2x128x512_2_0_01_1_n_n none
    (shapeCast S2x128x512 (Host.divf st.o (spread st.l)) shapeCasts_S2x128x8x64_S2x128x512) wo

/-- The reference's result. -/
def output (x : FVec F S2x128x512 .f32) (wq : FVec F S512x512 .f32) (k v : FVec F S2x4096x2x64 .f32) (wo : FVec F S512x512 .f32) :
    FVec F S2x128x512 .f32 := project (final x wq k v) wo

end Cert.ReferenceIdeal.Chunks

end
-- ==== Proof.RefRead.lean ====
/- The reference's functions of RefTerm.lean, each read at an index. -/
module

public import proofs.«01_k».proof.Proof.RefTerm
public import proofs.«01_k».proof.Proof.Attention

@[expose] public section

set_option maxRecDepth 16384

noncomputable section

namespace Cert.ReferenceIdeal.Chunks

open Cert.ReferenceIdeal Cert.ReferenceIdeal.Gen
open Idealize.ShloMosaic
open Cert.Softmax Cert.Attention

variable (x : FVec Ideal S2x128x512 .f32) (wq wo : FVec Ideal S512x512 .f32) (k v : FVec Ideal S2x4096x2x64 .f32)

theorem queries_apply (b : Fin 2) (i : Fin 128) (h : Fin 8) (d : Fin 64) :
    queries x wq (ix4 b i h d) = query x wq b i ⟨h.val * 64 + d.val, by omega⟩ := by
  pointwise [queries, query]

theorem chunk_apply (a : Fin 4) (b : Fin 2) (j : Fin 1024) (h : Fin 8) (d : Fin 64) :
    chunk a (repeated k) (ix4 b j h d) = k (ix4 b (key (1024 * a.val + j.val)) (kvHead h) d) := by
  have e : key (1024 * a.val + j.val) = ⟨1024 * a.val + j.val, by omega⟩ := Fin.ext (Nat.mod_eq_of_lt (by omega))
  rw [e]
  pointwise [chunk, repeated, kvHead]

theorem scores_apply (a : Fin 4) (b : Fin 2) (h : Fin 8) (i : Fin 128) (j : Fin 1024) :
    scores (queries x wq) (chunk a (repeated k)) (ix4 b h i j) = score x wq k b i h (1024 * a.val + j.val) := by
  generalize hq : queries x wq = q
  generalize hc : chunk a (repeated k) = c
  pointwise [scores, score]
  subst hq hc
  simp only [queries_apply, chunk_apply]

theorem newMax_apply (m : FVec Ideal S2x8x128x1 .f32) (s : FVec Ideal S2x8x128x1024 .f32) (b : Fin 2) (h : Fin 8) (i : Fin 128) :
    newMax m s (ix4 b h i 0) = max (m (ix4 b h i 0)) (Finset.univ.fold max ⊥ fun j : Fin 1024 => s (ix4 b h i j)) := by
  pointwise [newMax, ofBits_neg_inf]

theorem newDen_apply (m l m' : FVec Ideal S2x8x128x1 .f32) (s : FVec Ideal S2x8x128x1024 .f32) (b : Fin 2) (h : Fin 8) (i : Fin 128) :
    newDen l (rescale m m') (weights s m') (ix4 b h i 0)
      = l (ix4 b h i 0) * Ideal.exp (m (ix4 b h i 0) - m' (ix4 b h i 0))
        + ∑ j : Fin 1024, Ideal.exp (s (ix4 b h i j) - m' (ix4 b h i 0)) := by
  pointwise [newDen, rescale, weights]

theorem newNum_apply (m m' : FVec Ideal S2x8x128x1 .f32) (o : FVec Ideal S2x128x8x64 .f32) (s : FVec Ideal S2x8x128x1024 .f32)
    (u : FVec Ideal S2x1024x8x64 .f32) (b : Fin 2) (h : Fin 8) (i : Fin 128) (d : Fin 64) :
    newNum o (rescale m m') (weights s m') u (ix4 b i h d)
      = o (ix4 b i h d) * Ideal.exp (m (ix4 b h i 0) - m' (ix4 b h i 0))
        + ∑ j : Fin 1024, u (ix4 b j h d) * Ideal.exp (s (ix4 b h i j) - m' (ix4 b h i 0)) := by
  pointwise [newNum, spread, rescale, weights]

theorem project_apply (st : State Ideal) (b : Fin 2) (i : Fin 128) (n : Fin 512) :
    project st wo (ix3 b i n) = ∑ c : Fin 512, Ideal.div (st.o (ix4 b i ⟨c.val / 64, by omega⟩ ⟨c.val % 64, by omega⟩))
      (st.l (ix4 b ⟨c.val / 64, by omega⟩ i 0)) * wo (ix2 c n) := by
  pointwise [project, spread]

end Cert.ReferenceIdeal.Chunks

end
-- ==== Proof.RefValue.lean ====
/- The reference's result, read at an index: with real inputs `x`, `Wq` and `K_ext` it is the formula
   of Attention.lean. -/
module

public import proofs.«01_k».proof.Proof.RefRead

@[expose] public section

set_option maxRecDepth 16384

noncomputable section

namespace Cert.ReferenceIdeal.Chunks

open Cert.ReferenceIdeal Cert.ReferenceIdeal.Gen
open Idealize.ShloMosaic
open Cert.Softmax Cert.Attention

variable (x : FVec Ideal S2x128x512 .f32) (wq wo : FVec Ideal S512x512 .f32) (k v : FVec Ideal S2x4096x2x64 .f32)

/-- What the state is after the first `n` keys. -/
structure After (n : ℕ) (st : State Ideal) : Prop where
  m : ∀ b h i, n = 0 ∧ st.m (ix4 b h i 0) = ⊥ ∨ IsReal (st.m (ix4 b h i 0))
  l : ∀ b h i, st.l (ix4 b h i 0) = part (score x wq k b i h) (fun _ => 1) n (st.m (ix4 b h i 0))
  o : ∀ b h i d, st.o (ix4 b i h d) = part (score x wq k b i h) (value v b h d) n (st.m (ix4 b h i 0))

theorem after_start : After x wq k v 0 start where
  m b h i := .inl ⟨rfl, by pointwise [start, ofBits_neg_inf]⟩
  l b h i := by
    pointwise [start]
    exact (Finset.sum_range_zero _).symm
  o b h i d := by
    pointwise [start]
    exact (Finset.sum_range_zero _).symm

variable (hs : ∀ b i h j, IsReal (score x wq k b i h j))
include hs

theorem after_step (a : Fin 4) (st : State Ideal) (hst : After x wq k v (1024 * a.val) st) :
    After x wq k v (1024 * a.val + 1024) (stepAt x wq k v a st) := by
  have hm : ∀ b h i, IsReal ((stepAt x wq k v a st).m (ix4 b h i 0)) := fun b h i => by
    show IsReal (newMax st.m (scores (queries x wq) (chunk a (repeated k))) (ix4 b h i 0))
    rw [newMax_apply]
    have hf : IsReal (Finset.univ.fold max ⊥ fun j : Fin 1024 => scores (queries x wq) (chunk a (repeated k)) (ix4 b h i j)) :=
      isReal_fold_max_univ (n := 1023) _ fun j => by rw [scores_apply]; exact hs _ _ _ _
    rcases hst.m b h i with ⟨_, h0⟩ | h1
    · rw [h0, max_bot_left]
      exact hf
    · exact h1.max hf
  refine ⟨fun b h i => .inr (hm b h i), fun b h i => ?_, fun b h i d => ?_⟩
  · show newDen st.l (rescale st.m (stepAt x wq k v a st).m) (weights (scores (queries x wq) (chunk a (repeated k)))
      (stepAt x wq k v a st).m) (ix4 b h i 0) = _
    rw [newDen_apply, hst.l, ← part_step (fun _ => 1) (hs b i h) (1024 * a.val) 1024 _ _ ((hst.m b h i).imp_left And.left) (hm b h i)]
    congr 1
    refine Finset.sum_congr rfl fun j _ => ?_
    rw [scores_apply, one_mul]
  · show newNum st.o (rescale st.m (stepAt x wq k v a st).m) (weights (scores (queries x wq) (chunk a (repeated k)))
      (stepAt x wq k v a st).m) (chunk a (repeated v)) (ix4 b i h d) = _
    rw [newNum_apply, hst.o, ← part_step (value v b h d) (hs b i h) (1024 * a.val) 1024 _ _ ((hst.m b h i).imp_left And.left) (hm b h i)]
    congr 1
    refine Finset.sum_congr rfl fun j _ => ?_
    rw [scores_apply, chunk_apply]
    rfl

theorem after_final : After x wq k v 4096 (final x wq k v) :=
  after_step x wq k v hs 3 _ (after_step x wq k v hs 2 _ (after_step x wq k v hs 1 _ (after_step x wq k v hs 0 _ (after_start x wq k v))))

/-- The reference computes the formula. -/
theorem output_apply (b : Fin 2) (i : Fin 128) (n : Fin 512) :
    output x wq k v wo (ix3 b i n) = attention x wq wo k v b i n := by
  have hf := after_final x wq k v hs
  unfold output attention
  rw [project_apply]
  refine Finset.sum_congr rfl fun c _ => ?_
  rw [hf.l, hf.o]
  congr 1
  exact div_part _ _ (hs _ _ _) 4095 ((hf.m _ _ _).resolve_left fun h => absurd h.1 (by decide))

end Cert.ReferenceIdeal.Chunks

end
-- ==== Proof.RefOutput.lean ====
/- The reference's run, with its result written as in RefTerm.lean. -/
module

public import proofs.«01_k».proof.Proof.RefTerm
public import proofs.«01_k».proof.Proof.Gen.ReferenceIdeal.Run

@[expose] public section

set_option maxRecDepth 100000

noncomputable section

namespace Cert.ReferenceIdeal.Chunks

open Cert.ReferenceIdeal Cert.ReferenceIdeal.Gen
open Idealize.ShloMosaic

variable {F : FTy → Type} [FloatOps F]

theorem res_eq (m : (ℓ : Loc nD τ sig) → Buf (Elt F) ℓ) (c : Dev nD) :
    Cert.ReferenceIdeal.Value.res_main_v105 m c = output (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Chunks

end
-- ==== Proof.Values.lean ====
/- The two results are equal: on memories that agree on the arguments, with `x`, `Wq` and `K_ext` finite, every
   device's result is the reference's. -/
module

public import proofs.«01_k».proof.Defs
public import proofs.«01_k».proof.Proof.Finite
public import proofs.«01_k».proof.Proof.LaunchIdeal
public import proofs.«01_k».proof.Proof.KernelValue
public import proofs.«01_k».proof.Proof.RefValue
public import proofs.«01_k».proof.Proof.RefOutput

@[expose] public section

noncomputable section

namespace Cert.Values

open Idealize.ShloMosaic
open Cert.Softmax Cert.Attention

/-- An array whose 32 blocks have real entries has real entries. -/
theorem isReal_of_blocks (X : FVec Ideal ⟨4, ![2, 4096, 2, 64]⟩ .f32)
    (h : ∀ (c : Fin 32) t, IsReal (Layout.block ⟨4, ![2, 128, 2, 64]⟩ ⟨4, ![2, 4096, 2, 64]⟩ 1 32 c X (by decide) t))
    (t : Shape.Idx ⟨4, ![2, 4096, 2, 64]⟩) : IsReal (X t) := by
  obtain ⟨b, j, g, d, rfl⟩ : ∃ (b : Fin 2) (j : Fin 4096) (g : Fin 2) (d : Fin 64), t = ix4 b j g d := ⟨_, _, _, _, eq_ix4 t⟩
  have e := h ⟨j.val / 128, by omega⟩ (ix4 b ⟨j.val % 128, by omega⟩ g d)
  rw [Cert.KernelIdeal.Loop.block_ix] at e
  rwa [show key (128 * (j.val / 128) + j.val % 128) = j from Fin.ext (show (128 * (j.val / 128) + j.val % 128) % 4096 = j.val by omega)] at e

section

open Cert.KernelIdeal Cert.KernelIdeal.Loop

variable (m : (ℓ : Loc nD τ sig) → Buf (Elt Ideal) ℓ) (ρ : Dev nD → PrngReg)
variable (x : FVec Ideal ⟨3, ![2, 128, 512]⟩ .f32) (wq wo : FVec Ideal ⟨2, ![512, 512]⟩ .f32) (K V : FVec Ideal ⟨4, ![2, 4096, 2, 64]⟩ .f32)

/-- The inputs of the 32 devices, from the whole arrays. -/
theorem ins_eq (h0 : ∀ c : Dev nD, m ((c.tc : Thread nD τ).loc main_arg0) = x) (h1 : ∀ c : Dev nD, m ((c.tc : Thread nD τ).loc main_arg1) = wq)
    (h2 : ∀ c : Dev nD, m ((c.tc : Thread nD τ).loc main_arg2) = Layout.block ⟨4, ![2, 128, 2, 64]⟩ ⟨4, ![2, 4096, 2, 64]⟩ 1 32 c K (by decide))
    (h3 : ∀ c : Dev nD, m ((c.tc : Thread nD τ).loc main_arg3) = Layout.block ⟨4, ![2, 128, 2, 64]⟩ ⟨4, ![2, 4096, 2, 64]⟩ 1 32 c V (by decide))
    (h4 : ∀ c : Dev nD, m ((c.tc : Thread nD τ).loc main_arg4) = wo) : insOf m ρ = insAt x wq wo K V := by
  funext c
  rw [insOf_eq, h0, h1, h2, h3, h4]
  rfl

/-- With real inputs, every device's result is the reference's. -/
theorem result_eq (h0 : ∀ c : Dev nD, m ((c.tc : Thread nD τ).loc main_arg0) = x) (h1 : ∀ c : Dev nD, m ((c.tc : Thread nD τ).loc main_arg1) = wq)
    (h2 : ∀ c : Dev nD, m ((c.tc : Thread nD τ).loc main_arg2) = Layout.block ⟨4, ![2, 128, 2, 64]⟩ ⟨4, ![2, 4096, 2, 64]⟩ 1 32 c K (by decide))
    (h3 : ∀ c : Dev nD, m ((c.tc : Thread nD τ).loc main_arg3) = Layout.block ⟨4, ![2, 128, 2, 64]⟩ ⟨4, ![2, 4096, 2, 64]⟩ 1 32 c V (by decide))
    (h4 : ∀ c : Dev nD, m ((c.tc : Thread nD τ).loc main_arg4) = wo) (hf : Cert.Pre_KernelIdeal_finite_KernelIdeal m) :
    result m ρ = Cert.ReferenceIdeal.Chunks.output x wq K V wo := by
  have hr := fun c => Cert.Pre_finite_KernelIdeal.isReal_inputs _ _ _ _ _ (hf c)
  have hx : ∀ t, IsReal (x t) := h0 0 ▸ (hr 0).1
  have hq : ∀ t, IsReal (wq t) := h1 0 ▸ (hr 0).2.1
  have hk : ∀ t, IsReal (K t) := isReal_of_blocks K fun c t => by
    rw [← h2 c]
    exact (hr c).2.2 t
  have e : result m ρ = outOf (F := Ideal) (vals (insAt x wq wo K V)).o2 := by
    unfold result Vv
    rw [ins_eq m ρ x wq wo K V h0 h1 h2 h3 h4]
  rw [e]
  funext t
  obtain ⟨b, i, n, rfl⟩ : ∃ (b : Fin 2) (i : Fin 128) (n : Fin 512), t = ix3 b i n := ⟨_, _, _, eq_ix3 t⟩
  rw [out_apply]
  exact (Cert.ReferenceIdeal.Chunks.output_apply x wq wo K V (isReal_score x wq K hx hq hk) b i n).symm

end

end Cert.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Launch
public import proofs.«01_k».proof.Proof.LaunchIdeal
public import proofs.«01_k».proof.Proof.Values
public import Idealize.ShloMosaic.Adequacy
public import Idealize.ShloMosaic.Init

@[expose] public section

noncomputable section

namespace Cert.Proof

open Idealize.ShloMosaic Idealize.SL.Sem

/-- The kernel's frame, at the bit patterns. -/
theorem frame_kernel : Cert.quiescent_Kernel := fun m g _ =>
  (θ_run Cert.Kernel.defs _ _).mono (fun _ h => ⟨fun c => (h.1 c).2, h.2⟩) (Cert.Kernel.Loop.run_values (F := Bits) m g)

/-- The kernel's frame, at the extended reals. -/
theorem frame_kernelIdeal : Cert.quiescent_KernelIdeal := fun m g _ =>
  (θ_run Cert.KernelIdeal.defs _ _).mono (fun _ h => ⟨fun c => (h.1 c).2, h.2⟩) (Cert.KernelIdeal.Loop.run_values (F := Ideal) m g)

/-- The reference's frame: it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every device's result is the reference's. -/
theorem values : Cert.algebraic_KernelIdeal_ReferenceIdeal_pre_finite_KernelIdeal := by
  intro m g m' g' hf ha
  refine ⟨Cert.ReferenceIdeal.Value.res_main_v105 m' 0, ?_, ?_⟩
  · refine (θ_run Cert.KernelIdeal.defs _ _).mono (fun _ h c => ⟨(h.1 c).1.trans ?_, (h.1 c).2⟩) (Cert.KernelIdeal.Loop.run_values (F := Ideal) m g)
    rw [Cert.ReferenceIdeal.Chunks.res_eq]
    exact Cert.Values.result_eq m g _ _ _ _ _ (fun c => (ha c).1) (fun c => (ha c).2.1) (fun c => (ha c).2.2.1) (fun c => (ha c).2.2.2.1)
      (fun c => (ha c).2.2.2.2) hf
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_kernelIdeal, fun m g _ => frame_kernelIdeal m g trivial,
    frame_reference, fun m g _ => frame_reference m g trivial, trivial, values⟩

end Cert.Proof

end
